-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 1024, 2048]⟩ ⟨3, ![32, 1024, 2048]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S4096x1024 : Shape := ⟨2, ![4096, 1024]⟩
abbrev S1024x32 : Shape := ⟨2, ![1024, 32]⟩
abbrev S4096x1 : Shape := ⟨2, ![4096, 1]⟩
abbrev S4x1024x2048 : Shape := ⟨3, ![4, 1024, 2048]⟩
abbrev S4096 : Shape := ⟨1, ![4096]⟩
abbrev S32 : Shape := ⟨1, ![32]⟩
abbrev S1x32 : Shape := ⟨2, ![1, 32]⟩
abbrev S4096x32 : Shape := ⟨2, ![4096, 32]⟩
abbrev S_ : Shape := ⟨0, ![]⟩

class Facts : Prop where
  shapeCasts_S4096x1_S4096 : S4096x1.ShapeCasts S4096
  bcast_S4096_S4096x1_0 : S4096.BroadcastsInDim S4096x1 (![0] : Fin 1 → Fin S4096x1.rank)
  bcast_S32_S1x32_1 : S32.BroadcastsInDim S1x32 (![1] : Fin 1 → Fin S1x32.rank)
  bcast_S4096x1_S4096x32_0_1 : S4096x1.BroadcastsInDim S4096x32 (![0, 1] : Fin 2 → Fin S4096x32.rank)
  bcast_S1x32_S4096x32_0_1 : S1x32.BroadcastsInDim S4096x32 (![0, 1] : Fin 2 → Fin S4096x32.rank)
  natLt_1_32 : 1 < 32
  reducesTo_S4096x32_S32_d0 : S4096x32.ReducesTo [0] S32
  h_S_ : 0 < S_.numel
  bcast_S_S4096 : S_.BroadcastsInDim S4096 (![] : Fin 0 → Fin S4096.rank)
  bcast_S_S32 : S_.BroadcastsInDim S32 (![] : Fin 0 → Fin S32.rank)

variable [Facts]

def fn_part1 {F : FTy → Type} [FloatOps F] (main_v18 : IVec S4096x32 1) (main_v19 : IVec S4096x32 1) : IVec S4096x32 1 :=
  let main_v20 : IVec S4096x32 1 := andi main_v18 main_v19
  main_v20

def fn {F : FTy → Type} [FloatOps F] (main_arg0 : FVec F S4096x1024 .bf16) (main_arg1 : FVec F S1024x32 .bf16) (main_arg2 : IVec S4096x1 32) (main_arg3 : FVec F S4x1024x2048 .bf16) : IVec S4096x32 1 :=
  let main_v0 : IVec S4096 32 := shapeCast S4096 main_arg2 shapeCasts_S4096x1_S4096
  let main_v1 : IVec S4096x1 32 := broadcastInDim S4096x1 ![0] bcast_S4096_S4096x1_0 main_v0
  let main_v2 : IVec S32 32 := iotaInDim S32 32 0
  let main_v3 : IVec S1x32 32 := broadcastInDim S1x32 ![1] bcast_S32_S1x32_1 main_v2
  let main_v4 : IVec S4096x32 32 := broadcastInDim S4096x32 ![0, 1] bcast_S4096x1_S4096x32_0_1 main_v1
  let main_v5 : IVec S4096x32 32 := broadcastInDim S4096x32 ![0, 1] bcast_S1x32_S4096x32_0_1 main_v3
  let main_v6 : IVec S4096x32 1 := cmpi .eq main_v4 main_v5
  let main_v7 : IVec S4096x32 32 := (extui 32 · natLt_1_32) main_v6
  let main_c : IVec S_ 32 := constantI S_ 32 0#32
  let main_v8 : IVec S32 32 := (fun x v => Host.reduce IntOp.addi x v reducesTo_S4096x32_S32_d0 h_S_) main_v7 main_c
  let main_c_0 : IVec S_ 32 := constantI S_ 32 0#32
  let main_v9 : IVec S4096 32 := broadcastInDim S4096 ![] bcast_S_S4096 main_c_0
  let main_v10 : IVec S4096 1 := cmpi .sge main_v0 main_v9
  let main_c_1 : IVec S_ 32 := constantI S_ 32 32#32
  let main_v11 : IVec S4096 32 := broadcastInDim S4096 ![] bcast_S_S4096 main_c_1
  let main_v12 : IVec S4096 1 := cmpi .slt main_v0 main_v11
  let main_v13 : IVec S4096 1 := andi main_v10 main_v12
  let main_v14 : IVec S4096x1 1 := broadcastInDim S4096x1 ![0] bcast_S4096_S4096x1_0 main_v13
  let main_c_2 : IVec S_ 32 := constantI S_ 32 192#32
  let main_v15 : IVec S32 32 := broadcastInDim S32 ![] bcast_S_S32 main_c_2
  let main_v16 : IVec S32 1 := cmpi .sle main_v8 main_v15
  let main_v17 : IVec S1x32 1 := broadcastInDim S1x32 ![1] bcast_S32_S1x32_1 main_v16
  let main_v18 : IVec S4096x32 1 := broadcastInDim S4096x32 ![0, 1] bcast_S4096x1_S4096x32_0_1 main_v14
  let main_v19 : IVec S4096x32 1 := broadcastInDim S4096x32 ![0, 1] bcast_S1x32_S4096x32_0_1 main_v17
  fn_part1 (F := F) main_v18 main_v19
-- ==== Pre_routed_ReferenceIdeal.lean ====
abbrev S4096x1024 : Shape := ⟨2, ![4096, 1024]⟩
abbrev S1024x32 : Shape := ⟨2, ![1024, 32]⟩
abbrev S4096x1 : Shape := ⟨2, ![4096, 1]⟩
abbrev S32x1024x2048 : Shape := ⟨3, ![32, 1024, 2048]⟩
abbrev S4096 : Shape := ⟨1, ![4096]⟩
abbrev S32 : Shape := ⟨1, ![32]⟩
abbrev S1x32 : Shape := ⟨2, ![1, 32]⟩
abbrev S4096x32 : Shape := ⟨2, ![4096, 32]⟩
abbrev S_ : Shape := ⟨0, ![]⟩

class Facts : Prop where
  shapeCasts_S4096x1_S4096 : S4096x1.ShapeCasts S4096
  bcast_S4096_S4096x1_0 : S4096.BroadcastsInDim S4096x1 (![0] : Fin 1 → Fin S4096x1.rank)
  bcast_S32_S1x32_1 : S32.BroadcastsInDim S1x32 (![1] : Fin 1 → Fin S1x32.rank)
  bcast_S4096x1_S4096x32_0_1 : S4096x1.BroadcastsInDim S4096x32 (![0, 1] : Fin 2 → Fin S4096x32.rank)
  bcast_S1x32_S4096x32_0_1 : S1x32.BroadcastsInDim S4096x32 (![0, 1] : Fin 2 → Fin S4096x32.rank)
  natLt_1_32 : 1 < 32
  reducesTo_S4096x32_S32_d0 : S4096x32.ReducesTo [0] S32
  h_S_ : 0 < S_.numel
  bcast_S_S4096 : S_.BroadcastsInDim S4096 (![] : Fin 0 → Fin S4096.rank)
  bcast_S_S32 : S_.BroadcastsInDim S32 (![] : Fin 0 → Fin S32.rank)

variable [Facts]

def fn_part1 {F : FTy → Type} [FloatOps F] (main_v18 : IVec S4096x32 1) (main_v19 : IVec S4096x32 1) : IVec S4096x32 1 :=
  let main_v20 : IVec S4096x32 1 := andi main_v18 main_v19
  main_v20

def fn {F : FTy → Type} [FloatOps F] (main_arg0 : FVec F S4096x1024 .bf16) (main_arg1 : FVec F S1024x32 .bf16) (main_arg2 : IVec S4096x1 32) (main_arg3 : FVec F S32x1024x2048 .bf16) : IVec S4096x32 1 :=
  let main_v0 : IVec S4096 32 := shapeCast S4096 main_arg2 shapeCasts_S4096x1_S4096
  let main_v1 : IVec S4096x1 32 := broadcastInDim S4096x1 ![0] bcast_S4096_S4096x1_0 main_v0
  let main_v2 : IVec S32 32 := iotaInDim S32 32 0
  let main_v3 : IVec S1x32 32 := broadcastInDim S1x32 ![1] bcast_S32_S1x32_1 main_v2
  let main_v4 : IVec S4096x32 32 := broadcastInDim S4096x32 ![0, 1] bcast_S4096x1_S4096x32_0_1 main_v1
  let main_v5 : IVec S4096x32 32 := broadcastInDim S4096x32 ![0, 1] bcast_S1x32_S4096x32_0_1 main_v3
  let main_v6 : IVec S4096x32 1 := cmpi .eq main_v4 main_v5
  let main_v7 : IVec S4096x32 32 := (extui 32 · natLt_1_32) main_v6
  let main_c : IVec S_ 32 := constantI S_ 32 0#32
  let main_v8 : IVec S32 32 := (fun x v => Host.reduce IntOp.addi x v reducesTo_S4096x32_S32_d0 h_S_) main_v7 main_c
  let main_c_0 : IVec S_ 32 := constantI S_ 32 0#32
  let main_v9 : IVec S4096 32 := broadcastInDim S4096 ![] bcast_S_S4096 main_c_0
  let main_v10 : IVec S4096 1 := cmpi .sge main_v0 main_v9
  let main_c_1 : IVec S_ 32 := constantI S_ 32 32#32
  let main_v11 : IVec S4096 32 := broadcastInDim S4096 ![] bcast_S_S4096 main_c_1
  let main_v12 : IVec S4096 1 := cmpi .slt main_v0 main_v11
  let main_v13 : IVec S4096 1 := andi main_v10 main_v12
  let main_v14 : IVec S4096x1 1 := broadcastInDim S4096x1 ![0] bcast_S4096_S4096x1_0 main_v13
  let main_c_2 : IVec S_ 32 := constantI S_ 32 192#32
  let main_v15 : IVec S32 32 := broadcastInDim S32 ![] bcast_S_S32 main_c_2
  let main_v16 : IVec S32 1 := cmpi .sle main_v8 main_v15
  let main_v17 : IVec S1x32 1 := broadcastInDim S1x32 ![1] bcast_S32_S1x32_1 main_v16
  let main_v18 : IVec S4096x32 1 := broadcastInDim S4096x32 ![0, 1] bcast_S4096x1_S4096x32_0_1 main_v14
  let main_v19 : IVec S4096x32 1 := broadcastInDim S4096x32 ![0, 1] bcast_S1x32_S4096x32_0_1 main_v17
  fn_part1 (F := F) main_v18 main_v19
-- ==== Kernel.lean ====
abbrev S4096x1024 : Shape := ⟨2, ![4096, 1024]⟩
abbrev S1024x32 : Shape := ⟨2, ![1024, 32]⟩
abbrev S4096x1 : Shape := ⟨2, ![4096, 1]⟩
abbrev S4x1024x2048 : Shape := ⟨3, ![4, 1024, 2048]⟩
abbrev S_ : Shape := ⟨0, ![]⟩
abbrev S4096 : Shape := ⟨1, ![4096]⟩
abbrev S32 : Shape := ⟨1, ![32]⟩
abbrev S1x32 : Shape := ⟨2, ![1, 32]⟩
abbrev S4096x32 : Shape := ⟨2, ![4096, 32]⟩
abbrev S768 : Shape := ⟨1, ![768]⟩
abbrev S1x768 : Shape := ⟨2, ![1, 768]⟩
abbrev S4096x768 : Shape := ⟨2, ![4096, 768]⟩
abbrev S768x1024 : Shape := ⟨2, ![768, 1024]⟩
abbrev S4x192x1024 : Shape := ⟨3, ![4, 192, 1024]⟩
abbrev S4x192x2048 : Shape := ⟨3, ![4, 192, 2048]⟩
abbrev S768x2048 : Shape := ⟨2, ![768, 2048]⟩
abbrev S4096x2048 : Shape := ⟨2, ![4096, 2048]⟩
abbrev S4x128x2048 : Shape := ⟨3, ![4, 128, 2048]⟩
abbrev S4 : Shape := ⟨1, ![4]⟩
abbrev S1 : Shape := ⟨1, ![1]⟩
abbrev S1x128x2048 : Shape := ⟨3, ![1, 128, 2048]⟩
abbrev S128x2048 : Shape := ⟨2, ![128, 2048]⟩

abbrev nBuf : Space → Nat
  | .hbm => 69
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S1024x32, .bf16⟩
  | .hbm, ⟨2, _⟩ => ⟨S4096x1, .i32⟩
  | .hbm, ⟨3, _⟩ => ⟨S4x1024x2048, .bf16⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S4096, .i32⟩
  | .hbm, ⟨13, _⟩ => ⟨S4096x1, .i32⟩
  | .hbm, ⟨14, _⟩ => ⟨S32, .i32⟩
  | .hbm, ⟨15, _⟩ => ⟨S1x32, .i32⟩
  | .hbm, ⟨16, _⟩ => ⟨S4096x32, .i32⟩
  | .hbm, ⟨17, _⟩ => ⟨S4096x32, .i32⟩
  | .hbm, ⟨18, _⟩ => ⟨S4096x32, .i1⟩
  | .hbm, ⟨19, _⟩ => ⟨S4096x32, .i32⟩
  | .hbm, ⟨20, _⟩ => ⟨S_, .i32⟩
  | .hbm, ⟨21, _⟩ => ⟨S_, .i32⟩
  | .hbm, ⟨22, _⟩ => ⟨S4096x32, .i32⟩
  | .hbm, ⟨23, _⟩ => ⟨S_, .i32⟩
  | .hbm, ⟨24, _⟩ => ⟨S4096x32, .i32⟩
  | .hbm, ⟨25, _⟩ => ⟨S4096x32, .i32⟩
  | .hbm, ⟨26, _⟩ => ⟨S_, .i32⟩
  | .hbm, ⟨27, _⟩ => ⟨S_, .i32⟩
  | .hbm, ⟨28, _⟩ => ⟨S4096x32, .i32⟩
  | .hbm, ⟨29, _⟩ => ⟨S4096x32, .i32⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S_, .i32⟩
  | .hbm, ⟨42, _⟩ => ⟨S4096, .i32⟩
  | .hbm, ⟨43, _⟩ => ⟨S4096, .i1⟩
  | .hbm, ⟨44, _⟩ => ⟨S4096, .i1⟩
  | .hbm, ⟨45, _⟩ => ⟨S_, .i32⟩
  | .hbm, ⟨46, _⟩ => ⟨S4096, .i32⟩
  | .hbm, ⟨47, _⟩ => ⟨S4096, .i1⟩
  | .hbm, ⟨48, _⟩ => ⟨S4096, .i1⟩
  | .hbm, ⟨49, _⟩ => ⟨S_, .i32⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S4096x1, .i32⟩
  | .hbm, ⟨54, _⟩ => ⟨S768, .i32⟩
  | .hbm, ⟨55, _⟩ => ⟨S1x768, .i32⟩
  | .hbm, ⟨56, _⟩ => ⟨S4096x768, .i32⟩
  | .hbm, ⟨57, _⟩ => ⟨S4096x768, .i32⟩
  | .hbm, ⟨58, _⟩ => ⟨S4096x768, .i1⟩
  | .hbm, ⟨59, _⟩ => ⟨S4096x768, .bf16⟩
  | .hbm, ⟨60, _⟩ => ⟨S768x1024, .f32⟩
  | .hbm, ⟨61, _⟩ => ⟨S768x1024, .bf16⟩
  | .hbm, ⟨62, _⟩ => ⟨S4x192x1024, .bf16⟩
  | .hbm, ⟨63, _⟩ => ⟨S4x192x2048, .f32⟩
  | .hbm, ⟨64, _⟩ => ⟨S4x192x2048, .bf16⟩
  | .hbm, ⟨65, _⟩ => ⟨S768x2048, .bf16⟩
  | .hbm, ⟨66, _⟩ => ⟨S4096x2048, .f32⟩
  | .hbm, ⟨67, _⟩ => ⟨S4096x2048, .bf16⟩
  | .hbm, ⟨68, _⟩ => ⟨S4096x2048, .bf16⟩
  | .local _ .vmem, ⟨0, _⟩ => ⟨S4096x2048, .bf16⟩
  | .local _ .vmem, ⟨1, _⟩ => ⟨S4096x2048, .bf16⟩
  | .local _ .vmem, ⟨2, _⟩ => ⟨S4x128x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 5 10 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_call0_c : Ref sig .tc := ⟨.hbm, 20, rfl⟩
abbrev main_call0_call0_v0 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_call1_v0 : Ref sig .tc := ⟨.hbm, 27, rfl⟩
abbrev main_call1_v1 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_call2_v0 : Ref sig .tc := ⟨.hbm, 50, rfl⟩
abbrev main_call2_v1 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 4

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21 : BitVec 32 := 1#32
  let v32 : BitVec 32 := Scalar.muli v13 c1_i32_21
  let v33 : BitVec 32 := Scalar.addi c0_i32_22 v32
  v33.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_25 : BitVec 32 := 1#32
  let v36 : BitVec 32 := Scalar.muli v13 c1_i32_25
  let v37 : BitVec 32 := Scalar.addi c0_i32_26 v36
  v37.toNat
def k0_dev5 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_29 : BitVec 32 := 1#32
  let v40 : BitVec 32 := Scalar.muli v24 c1_i32_29
  let v41 : BitVec 32 := Scalar.addi c0_i32_30 v40
  v41.toNat
def k0_dev6 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_32 : BitVec 32 := 1#32
  let v44 : BitVec 32 := Scalar.muli v24 c1_i32_32
  let v45 : BitVec 32 := Scalar.addi c0_i32_33 v44
  v45.toNat
def k0_off1 (d0 : Dev nD) (c0_i32_37 : BitVec 32) (c0_i32_44 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v49 : BitVec 32 := Scalar.subi v2 c0_i32_37
  let c8_i32_38 : BitVec 32 := 8#32
  let c0_i32_39 : BitVec 32 := 0#32
  let v50 : BitVec 1 := Scalar.cmpi .eq c8_i32_38 c0_i32_39
  let c1_i32_40 : BitVec 32 := 1#32
  let v51 : BitVec 32 := Scalar.select v50 c1_i32_40 c8_i32_38
  let v52 : BitVec 32 := Scalar.remsi v49 v51
  let c0_i32_42 : BitVec 32 := 0#32
  let v54 : BitVec 1 := Scalar.cmpi .slt v52 c0_i32_42
  let c0_i32_43 : BitVec 32 := 0#32
  let v55 : BitVec 1 := Scalar.cmpi .slt v51 c0_i32_43
  let v56 : BitVec 1 := Scalar.xori v54 v55
  let c0_i32_41 : BitVec 32 := 0#32
  let v53 : BitVec 1 := Scalar.cmpi .ne v52 c0_i32_41
  let v57 : BitVec 1 := Scalar.andi v56 v53
  let v58 : BitVec 32 := Scalar.addi v52 v51
  let v59 : BitVec 32 := Scalar.select v57 v58 v52
  let c512_i32 : BitVec 32 := 512#32
  let v60 : BitVec 32 := Scalar.muli v59 c512_i32
  let v61 : BitVec 32 := Scalar.addi v60 c0_i32_44
  let c0_i32_55 : BitVec 32 := 0#32
  ![v61.toNat, 0]
def k0_off1_at (r : Fin 28) : BitVec 32 × BitVec 32 :=
  if r.val < 14 then
    if r.val < 7 then
      if r.val < 3 then
        if r.val < 1 then
          (0#32, 0#32)
        else
          if r.val < 2 then
            (0#32, 128#32)
          else
            (0#32, 256#32)
      else
        if r.val < 5 then
          if r.val < 4 then
            (0#32, 384#32)
          else
            (1#32, 0#32)
        else
          if r.val < 6 then
            (1#32, 128#32)
          else
            (4294967295#32, 256#32)
    else
      if r.val < 10 then
        if r.val < 8 then
          (4294967295#32, 384#32)
        else
          if r.val < 9 then
            (2#32, 0#32)
          else
            (2#32, 128#32)
      else
        if r.val < 12 then
          if r.val < 11 then
            (4294967294#32, 256#32)
          else
            (4294967294#32, 384#32)
        else
          if r.val < 13 then
            (3#32, 0#32)
          else
            (3#32, 128#32)
  else
    if r.val < 21 then
      if r.val < 17 then
        if r.val < 15 then
          (4294967293#32, 256#32)
        else
          if r.val < 16 then
            (4294967293#32, 384#32)
          else
            (4#32, 0#32)
      else
        if r.val < 19 then
          if r.val < 18 then
            (4#32, 128#32)
          else
            (4294967292#32, 256#32)
        else
          if r.val < 20 then
            (4294967292#32, 384#32)
          else
            (5#32, 0#32)
    else
      if r.val < 24 then
        if r.val < 22 then
          (5#32, 128#32)
        else
          if r.val < 23 then
            (4294967291#32, 256#32)
          else
            (4294967291#32, 384#32)
      else
        if r.val < 26 then
          if r.val < 25 then
            (6#32, 0#32)
          else
            (6#32, 128#32)
        else
          if r.val < 27 then
            (4294967290#32, 256#32)
          else
            (4294967290#32, 384#32)
def k0_dev7 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_51 : BitVec 32 := 1#32
  let v64 : BitVec 32 := Scalar.muli v24 c1_i32_51
  let v65 : BitVec 32 := Scalar.addi c0_i32_52 v64
  v65.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_70 : BitVec 32 := 1#32
  let v88 : BitVec 32 := Scalar.muli v24 c1_i32_70
  let v89 : BitVec 32 := Scalar.addi c0_i32_71 v88
  v89.toNat
def k0_dev9 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_89 : BitVec 32 := 1#32
  let v112 : BitVec 32 := Scalar.muli v13 c1_i32_89
  let v113 : BitVec 32 := Scalar.addi c0_i32_90 v112
  v113.toNat
def k0_dev10 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_108 : BitVec 32 := 1#32
  let v136 : BitVec 32 := Scalar.muli v13 c1_i32_108
  let v137 : BitVec 32 := Scalar.addi c0_i32_109 v136
  v137.toNat
def k0_off2 (d0 : Dev nD) (c1_i32_128 : BitVec 32) (c0_i32_136 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v157 : BitVec 32 := Scalar.subi v2 c1_i32_128
  let c8_i32_129 : BitVec 32 := 8#32
  let c0_i32_130 : BitVec 32 := 0#32
  let v158 : BitVec 1 := Scalar.cmpi .eq c8_i32_129 c0_i32_130
  let c1_i32_131 : BitVec 32 := 1#32
  let v159 : BitVec 32 := Scalar.select v158 c1_i32_131 c8_i32_129
  let v160 : BitVec 32 := Scalar.remsi v157 v159
  let c0_i32_133 : BitVec 32 := 0#32
  let v162 : BitVec 1 := Scalar.cmpi .slt v160 c0_i32_133
  let c0_i32_134 : BitVec 32 := 0#32
  let v163 : BitVec 1 := Scalar.cmpi .slt v159 c0_i32_134
  let v164 : BitVec 1 := Scalar.xori v162 v163
  let c0_i32_132 : BitVec 32 := 0#32
  let v161 : BitVec 1 := Scalar.cmpi .ne v160 c0_i32_132
  let v165 : BitVec 1 := Scalar.andi v164 v161
  let v166 : BitVec 32 := Scalar.addi v160 v159
  let v167 : BitVec 32 := Scalar.select v165 v166 v160
  let c512_i32_135 : BitVec 32 := 512#32
  let v168 : BitVec 32 := Scalar.muli v167 c512_i32_135
  let v169 : BitVec 32 := Scalar.addi v168 c0_i32_136
  let v170 : Index := Scalar.indexCast v169
  let c0_137 : Index := 0#32
  ![v170.toNat, 0]
def k0_off2_at (r : Fin 28) : BitVec 32 × BitVec 32 :=
  if r.val < 14 then
    if r.val < 7 then
      if r.val < 3 then
        if r.val < 1 then
          (1#32, 0#32)
        else
          if r.val < 2 then
            (1#32, 128#32)
          else
            (4294967295#32, 256#32)
      else
        if r.val < 5 then
          if r.val < 4 then
            (4294967295#32, 384#32)
          else
            (2#32, 0#32)
        else
          if r.val < 6 then
            (2#32, 128#32)
          else
            (4294967294#32, 256#32)
    else
      if r.val < 10 then
        if r.val < 8 then
          (4294967294#32, 384#32)
        else
          if r.val < 9 then
            (3#32, 0#32)
          else
            (3#32, 128#32)
      else
        if r.val < 12 then
          if r.val < 11 then
            (4294967293#32, 256#32)
          else
            (4294967293#32, 384#32)
        else
          if r.val < 13 then
            (4#32, 0#32)
          else
            (4#32, 128#32)
  else
    if r.val < 21 then
      if r.val < 17 then
        if r.val < 15 then
          (4294967292#32, 256#32)
        else
          if r.val < 16 then
            (4294967292#32, 384#32)
          else
            (5#32, 0#32)
      else
        if r.val < 19 then
          if r.val < 18 then
            (5#32, 128#32)
          else
            (4294967291#32, 256#32)
        else
          if r.val < 20 then
            (4294967291#32, 384#32)
          else
            (6#32, 0#32)
    else
      if r.val < 24 then
        if r.val < 22 then
          (6#32, 128#32)
        else
          if r.val < 23 then
            (4294967290#32, 256#32)
          else
            (4294967290#32, 384#32)
      else
        if r.val < 26 then
          if r.val < 25 then
            (7#32, 0#32)
          else
            (7#32, 128#32)
        else
          if r.val < 27 then
            (4294967289#32, 256#32)
          else
            (4294967289#32, 384#32)
def k0_dev11 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_144 : BitVec 32 := 1#32
  let v180 : BitVec 32 := Scalar.muli v13 c1_i32_144
  let v181 : BitVec 32 := Scalar.addi c0_i32_145 v180
  v181.toNat
def k0_dev12 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_176 : BitVec 32 := 1#32
  let v217 : BitVec 32 := Scalar.muli v13 c1_i32_176
  let v218 : BitVec 32 := Scalar.addi c0_i32_177 v217
  v218.toNat
def k0_dev13 (d0 : Dev nD) : Nat :=
  let c0_i32_208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_207 : BitVec 32 := 1#32
  let v254 : BitVec 32 := Scalar.muli v24 c1_i32_207
  let v255 : BitVec 32 := Scalar.addi c0_i32_208 v254
  v255.toNat
def k0_dev14 (d0 : Dev nD) : Nat :=
  let c0_i32_240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_239 : BitVec 32 := 1#32
  let v291 : BitVec 32 := Scalar.muli v24 c1_i32_239
  let v292 : BitVec 32 := Scalar.addi c0_i32_240 v291
  v292.toNat
def k0_dev15 (d0 : Dev nD) : Nat :=
  let c0_i32_257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_256 : BitVec 32 := 1#32
  let v308 : BitVec 32 := Scalar.muli v24 c1_i32_256
  let v309 : BitVec 32 := Scalar.addi c0_i32_257 v308
  v309.toNat
def k0_dev16 (d0 : Dev nD) : Nat :=
  let c0_i32_277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_276 : BitVec 32 := 1#32
  let v332 : BitVec 32 := Scalar.muli v24 c1_i32_276
  let v333 : BitVec 32 := Scalar.addi c0_i32_277 v332
  v333.toNat
def k0_dev17 (d0 : Dev nD) : Nat :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_296 : BitVec 32 := 1#32
  let v356 : BitVec 32 := Scalar.muli v13 c1_i32_296
  let v357 : BitVec 32 := Scalar.addi c0_i32_297 v356
  v357.toNat
def k0_dev18 (d0 : Dev nD) : Nat :=
  let c0_i32_317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_316 : BitVec 32 := 1#32
  let v380 : BitVec 32 := Scalar.muli v13 c1_i32_316
  let v381 : BitVec 32 := Scalar.addi c0_i32_317 v380
  v381.toNat
def k0_dev19 (d0 : Dev nD) : Nat :=
  let c0_i32_353 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_352 : BitVec 32 := 1#32
  let v424 : BitVec 32 := Scalar.muli v13 c1_i32_352
  let v425 : BitVec 32 := Scalar.addi c0_i32_353 v424
  v425.toNat
def k0_dev20 (d0 : Dev nD) : Nat :=
  let c0_i32_386 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_385 : BitVec 32 := 1#32
  let v461 : BitVec 32 := Scalar.muli v13 c1_i32_385
  let v462 : BitVec 32 := Scalar.addi c0_i32_386 v461
  v462.toNat
def k0_dev21 (d0 : Dev nD) : Nat :=
  let c0_i32_418 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_417 : BitVec 32 := 1#32
  let v498 : BitVec 32 := Scalar.muli v24 c1_i32_417
  let v499 : BitVec 32 := Scalar.addi c0_i32_418 v498
  v499.toNat
def k0_dev22 (d0 : Dev nD) : Nat :=
  let c0_i32_451 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_450 : BitVec 32 := 1#32
  let v535 : BitVec 32 := Scalar.muli v24 c1_i32_450
  let v536 : BitVec 32 := Scalar.addi c0_i32_451 v535
  v536.toNat
def k0_dev23 (d0 : Dev nD) : Nat :=
  let c0_i32_468 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_467 : BitVec 32 := 1#32
  let v552 : BitVec 32 := Scalar.muli v24 c1_i32_467
  let v553 : BitVec 32 := Scalar.addi c0_i32_468 v552
  v553.toNat
def k0_dev24 (d0 : Dev nD) : Nat :=
  let c0_i32_488 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_487 : BitVec 32 := 1#32
  let v576 : BitVec 32 := Scalar.muli v24 c1_i32_487
  let v577 : BitVec 32 := Scalar.addi c0_i32_488 v576
  v577.toNat
def k0_dev25 (d0 : Dev nD) : Nat :=
  let c0_i32_508 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_507 : BitVec 32 := 1#32
  let v600 : BitVec 32 := Scalar.muli v13 c1_i32_507
  let v601 : BitVec 32 := Scalar.addi c0_i32_508 v600
  v601.toNat
def k0_dev26 (d0 : Dev nD) : Nat :=
  let c0_i32_528 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_527 : BitVec 32 := 1#32
  let v624 : BitVec 32 := Scalar.muli v13 c1_i32_527
  let v625 : BitVec 32 := Scalar.addi c0_i32_528 v624
  v625.toNat
def k0_dev27 (d0 : Dev nD) : Nat :=
  let c0_i32_564 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_563 : BitVec 32 := 1#32
  let v668 : BitVec 32 := Scalar.muli v13 c1_i32_563
  let v669 : BitVec 32 := Scalar.addi c0_i32_564 v668
  v669.toNat
def k0_dev28 (d0 : Dev nD) : Nat :=
  let c0_i32_597 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_596 : BitVec 32 := 1#32
  let v705 : BitVec 32 := Scalar.muli v13 c1_i32_596
  let v706 : BitVec 32 := Scalar.addi c0_i32_597 v705
  v706.toNat
def k0_dev29 (d0 : Dev nD) : Nat :=
  let c0_i32_629 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_628 : BitVec 32 := 1#32
  let v742 : BitVec 32 := Scalar.muli v24 c1_i32_628
  let v743 : BitVec 32 := Scalar.addi c0_i32_629 v742
  v743.toNat
def k0_dev30 (d0 : Dev nD) : Nat :=
  let c0_i32_662 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_661 : BitVec 32 := 1#32
  let v779 : BitVec 32 := Scalar.muli v24 c1_i32_661
  let v780 : BitVec 32 := Scalar.addi c0_i32_662 v779
  v780.toNat
def k0_dev31 (d0 : Dev nD) : Nat :=
  let c0_i32_679 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_678 : BitVec 32 := 1#32
  let v796 : BitVec 32 := Scalar.muli v24 c1_i32_678
  let v797 : BitVec 32 := Scalar.addi c0_i32_679 v796
  v797.toNat
def k0_dev32 (d0 : Dev nD) : Nat :=
  let c0_i32_699 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_698 : BitVec 32 := 1#32
  let v820 : BitVec 32 := Scalar.muli v24 c1_i32_698
  let v821 : BitVec 32 := Scalar.addi c0_i32_699 v820
  v821.toNat
def k0_dev33 (d0 : Dev nD) : Nat :=
  let c0_i32_719 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_718 : BitVec 32 := 1#32
  let v844 : BitVec 32 := Scalar.muli v13 c1_i32_718
  let v845 : BitVec 32 := Scalar.addi c0_i32_719 v844
  v845.toNat
def k0_dev34 (d0 : Dev nD) : Nat :=
  let c0_i32_739 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_738 : BitVec 32 := 1#32
  let v868 : BitVec 32 := Scalar.muli v13 c1_i32_738
  let v869 : BitVec 32 := Scalar.addi c0_i32_739 v868
  v869.toNat
def k0_dev35 (d0 : Dev nD) : Nat :=
  let c0_i32_774 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_773 : BitVec 32 := 1#32
  let v912 : BitVec 32 := Scalar.muli v13 c1_i32_773
  let v913 : BitVec 32 := Scalar.addi c0_i32_774 v912
  v913.toNat
def k0_dev36 (d0 : Dev nD) : Nat :=
  let c0_i32_807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_806 : BitVec 32 := 1#32
  let v949 : BitVec 32 := Scalar.muli v13 c1_i32_806
  let v950 : BitVec 32 := Scalar.addi c0_i32_807 v949
  v950.toNat
def k0_dev37 (d0 : Dev nD) : Nat :=
  let c0_i32_839 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_838 : BitVec 32 := 1#32
  let v986 : BitVec 32 := Scalar.muli v24 c1_i32_838
  let v987 : BitVec 32 := Scalar.addi c0_i32_839 v986
  v987.toNat
def k0_dev38 (d0 : Dev nD) : Nat :=
  let c0_i32_872 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_871 : BitVec 32 := 1#32
  let v1023 : BitVec 32 := Scalar.muli v24 c1_i32_871
  let v1024 : BitVec 32 := Scalar.addi c0_i32_872 v1023
  v1024.toNat
def k0_dev39 (d0 : Dev nD) : Nat :=
  let c0_i32_889 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_888 : BitVec 32 := 1#32
  let v1040 : BitVec 32 := Scalar.muli v24 c1_i32_888
  let v1041 : BitVec 32 := Scalar.addi c0_i32_889 v1040
  v1041.toNat
def k0_dev40 (d0 : Dev nD) : Nat :=
  let c0_i32_909 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_908 : BitVec 32 := 1#32
  let v1064 : BitVec 32 := Scalar.muli v24 c1_i32_908
  let v1065 : BitVec 32 := Scalar.addi c0_i32_909 v1064
  v1065.toNat
def k0_dev41 (d0 : Dev nD) : Nat :=
  let c0_i32_929 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_928 : BitVec 32 := 1#32
  let v1088 : BitVec 32 := Scalar.muli v13 c1_i32_928
  let v1089 : BitVec 32 := Scalar.addi c0_i32_929 v1088
  v1089.toNat
def k0_dev42 (d0 : Dev nD) : Nat :=
  let c0_i32_949 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_948 : BitVec 32 := 1#32
  let v1112 : BitVec 32 := Scalar.muli v13 c1_i32_948
  let v1113 : BitVec 32 := Scalar.addi c0_i32_949 v1112
  v1113.toNat
def k0_dev43 (d0 : Dev nD) : Nat :=
  let c0_i32_984 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_983 : BitVec 32 := 1#32
  let v1156 : BitVec 32 := Scalar.muli v13 c1_i32_983
  let v1157 : BitVec 32 := Scalar.addi c0_i32_984 v1156
  v1157.toNat
def k0_dev44 (d0 : Dev nD) : Nat :=
  let c0_i32_1017 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1016 : BitVec 32 := 1#32
  let v1193 : BitVec 32 := Scalar.muli v13 c1_i32_1016
  let v1194 : BitVec 32 := Scalar.addi c0_i32_1017 v1193
  v1194.toNat
def k0_dev45 (d0 : Dev nD) : Nat :=
  let c0_i32_1049 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1048 : BitVec 32 := 1#32
  let v1230 : BitVec 32 := Scalar.muli v24 c1_i32_1048
  let v1231 : BitVec 32 := Scalar.addi c0_i32_1049 v1230
  v1231.toNat
def k0_dev46 (d0 : Dev nD) : Nat :=
  let c0_i32_1082 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1081 : BitVec 32 := 1#32
  let v1267 : BitVec 32 := Scalar.muli v24 c1_i32_1081
  let v1268 : BitVec 32 := Scalar.addi c0_i32_1082 v1267
  v1268.toNat
def k0_dev47 (d0 : Dev nD) : Nat :=
  let c0_i32_1099 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1098 : BitVec 32 := 1#32
  let v1284 : BitVec 32 := Scalar.muli v24 c1_i32_1098
  let v1285 : BitVec 32 := Scalar.addi c0_i32_1099 v1284
  v1285.toNat
def k0_dev48 (d0 : Dev nD) : Nat :=
  let c0_i32_1119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1118 : BitVec 32 := 1#32
  let v1308 : BitVec 32 := Scalar.muli v24 c1_i32_1118
  let v1309 : BitVec 32 := Scalar.addi c0_i32_1119 v1308
  v1309.toNat
def k0_dev49 (d0 : Dev nD) : Nat :=
  let c0_i32_1139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1138 : BitVec 32 := 1#32
  let v1332 : BitVec 32 := Scalar.muli v13 c1_i32_1138
  let v1333 : BitVec 32 := Scalar.addi c0_i32_1139 v1332
  v1333.toNat
def k0_dev50 (d0 : Dev nD) : Nat :=
  let c0_i32_1159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1158 : BitVec 32 := 1#32
  let v1356 : BitVec 32 := Scalar.muli v13 c1_i32_1158
  let v1357 : BitVec 32 := Scalar.addi c0_i32_1159 v1356
  v1357.toNat
def k0_dev51 (d0 : Dev nD) : Nat :=
  let c0_i32_1194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1193 : BitVec 32 := 1#32
  let v1400 : BitVec 32 := Scalar.muli v13 c1_i32_1193
  let v1401 : BitVec 32 := Scalar.addi c0_i32_1194 v1400
  v1401.toNat
def k0_dev52 (d0 : Dev nD) : Nat :=
  let c0_i32_1227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1226 : BitVec 32 := 1#32
  let v1437 : BitVec 32 := Scalar.muli v13 c1_i32_1226
  let v1438 : BitVec 32 := Scalar.addi c0_i32_1227 v1437
  v1438.toNat
def k0_dev53 (d0 : Dev nD) : Nat :=
  let c0_i32_1259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1258 : BitVec 32 := 1#32
  let v1474 : BitVec 32 := Scalar.muli v24 c1_i32_1258
  let v1475 : BitVec 32 := Scalar.addi c0_i32_1259 v1474
  v1475.toNat
def k0_dev54 (d0 : Dev nD) : Nat :=
  let c0_i32_1292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1291 : BitVec 32 := 1#32
  let v1511 : BitVec 32 := Scalar.muli v24 c1_i32_1291
  let v1512 : BitVec 32 := Scalar.addi c0_i32_1292 v1511
  v1512.toNat
def k0_dev55 (d0 : Dev nD) : Nat :=
  let c0_i32_1309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1308 : BitVec 32 := 1#32
  let v1528 : BitVec 32 := Scalar.muli v24 c1_i32_1308
  let v1529 : BitVec 32 := Scalar.addi c0_i32_1309 v1528
  v1529.toNat
def k0_dev56 (d0 : Dev nD) : Nat :=
  let c0_i32_1329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1328 : BitVec 32 := 1#32
  let v1552 : BitVec 32 := Scalar.muli v24 c1_i32_1328
  let v1553 : BitVec 32 := Scalar.addi c0_i32_1329 v1552
  v1553.toNat
def k0_dev57 (d0 : Dev nD) : Nat :=
  let c0_i32_1349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1348 : BitVec 32 := 1#32
  let v1576 : BitVec 32 := Scalar.muli v13 c1_i32_1348
  let v1577 : BitVec 32 := Scalar.addi c0_i32_1349 v1576
  v1577.toNat
def k0_dev58 (d0 : Dev nD) : Nat :=
  let c0_i32_1369 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1368 : BitVec 32 := 1#32
  let v1600 : BitVec 32 := Scalar.muli v13 c1_i32_1368
  let v1601 : BitVec 32 := Scalar.addi c0_i32_1369 v1600
  v1601.toNat
def k0_dev59 (d0 : Dev nD) : Nat :=
  let c0_i32_1404 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1403 : BitVec 32 := 1#32
  let v1644 : BitVec 32 := Scalar.muli v13 c1_i32_1403
  let v1645 : BitVec 32 := Scalar.addi c0_i32_1404 v1644
  v1645.toNat
def k0_dev60 (d0 : Dev nD) : Nat :=
  let c0_i32_1437 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1436 : BitVec 32 := 1#32
  let v1681 : BitVec 32 := Scalar.muli v13 c1_i32_1436
  let v1682 : BitVec 32 := Scalar.addi c0_i32_1437 v1681
  v1682.toNat
def k0_dev61 (d0 : Dev nD) : Nat :=
  let c0_i32_1469 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1468 : BitVec 32 := 1#32
  let v1718 : BitVec 32 := Scalar.muli v24 c1_i32_1468
  let v1719 : BitVec 32 := Scalar.addi c0_i32_1469 v1718
  v1719.toNat
def k0_dev62 (d0 : Dev nD) : Nat :=
  let c0_i32_1502 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1501 : BitVec 32 := 1#32
  let v1755 : BitVec 32 := Scalar.muli v24 c1_i32_1501
  let v1756 : BitVec 32 := Scalar.addi c0_i32_1502 v1755
  v1756.toNat
def k0_off3 (d0 : Dev nD) (c1_i32_1503 : BitVec 32) (c0_i32_1511 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1757 : BitVec 32 := Scalar.addi v2 c1_i32_1503
  let c8_i32_1504 : BitVec 32 := 8#32
  let c0_i32_1505 : BitVec 32 := 0#32
  let v1758 : BitVec 1 := Scalar.cmpi .eq c8_i32_1504 c0_i32_1505
  let c1_i32_1506 : BitVec 32 := 1#32
  let v1759 : BitVec 32 := Scalar.select v1758 c1_i32_1506 c8_i32_1504
  let v1760 : BitVec 32 := Scalar.remsi v1757 v1759
  let c0_i32_1508 : BitVec 32 := 0#32
  let v1762 : BitVec 1 := Scalar.cmpi .slt v1760 c0_i32_1508
  let c0_i32_1509 : BitVec 32 := 0#32
  let v1763 : BitVec 1 := Scalar.cmpi .slt v1759 c0_i32_1509
  let v1764 : BitVec 1 := Scalar.xori v1762 v1763
  let c0_i32_1507 : BitVec 32 := 0#32
  let v1761 : BitVec 1 := Scalar.cmpi .ne v1760 c0_i32_1507
  let v1765 : BitVec 1 := Scalar.andi v1764 v1761
  let v1766 : BitVec 32 := Scalar.addi v1760 v1759
  let v1767 : BitVec 32 := Scalar.select v1765 v1766 v1760
  let c512_i32_1510 : BitVec 32 := 512#32
  let v1768 : BitVec 32 := Scalar.muli v1767 c512_i32_1510
  let v1769 : BitVec 32 := Scalar.addi v1768 c0_i32_1511
  let c0_i32_1521 : BitVec 32 := 0#32
  ![v1769.toNat, 0]
def k0_off3_at (r : Fin 28) : BitVec 32 × BitVec 32 :=
  if r.val < 14 then
    if r.val < 7 then
      if r.val < 3 then
        if r.val < 1 then
          (1#32, 0#32)
        else
          if r.val < 2 then
            (1#32, 128#32)
          else
            (4294967295#32, 256#32)
      else
        if r.val < 5 then
          if r.val < 4 then
            (4294967295#32, 384#32)
          else
            (0#32, 0#32)
        else
          if r.val < 6 then
            (0#32, 128#32)
          else
            (0#32, 256#32)
    else
      if r.val < 10 then
        if r.val < 8 then
          (0#32, 384#32)
        else
          if r.val < 9 then
            (4294967295#32, 0#32)
          else
            (4294967295#32, 128#32)
      else
        if r.val < 12 then
          if r.val < 11 then
            (1#32, 256#32)
          else
            (1#32, 384#32)
        else
          if r.val < 13 then
            (4294967294#32, 0#32)
          else
            (4294967294#32, 128#32)
  else
    if r.val < 21 then
      if r.val < 17 then
        if r.val < 15 then
          (2#32, 256#32)
        else
          if r.val < 16 then
            (2#32, 384#32)
          else
            (4294967293#32, 0#32)
      else
        if r.val < 19 then
          if r.val < 18 then
            (4294967293#32, 128#32)
          else
            (3#32, 256#32)
        else
          if r.val < 20 then
            (3#32, 384#32)
          else
            (4294967292#32, 0#32)
    else
      if r.val < 24 then
        if r.val < 22 then
          (4294967292#32, 128#32)
        else
          if r.val < 23 then
            (4#32, 256#32)
          else
            (4#32, 384#32)
      else
        if r.val < 26 then
          if r.val < 25 then
            (4294967291#32, 0#32)
          else
            (4294967291#32, 128#32)
        else
          if r.val < 27 then
            (5#32, 256#32)
          else
            (5#32, 384#32)
def k0_dev63 (d0 : Dev nD) : Nat :=
  let c0_i32_1520 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1519 : BitVec 32 := 1#32
  let v1774 : BitVec 32 := Scalar.muli v24 c1_i32_1519
  let v1775 : BitVec 32 := Scalar.addi c0_i32_1520 v1774
  v1775.toNat
def k0_dev64 (d0 : Dev nD) : Nat :=
  let c0_i32_1540 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1539 : BitVec 32 := 1#32
  let v1799 : BitVec 32 := Scalar.muli v24 c1_i32_1539
  let v1800 : BitVec 32 := Scalar.addi c0_i32_1540 v1799
  v1800.toNat
def k0_dev65 (d0 : Dev nD) : Nat :=
  let c0_i32_1560 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1559 : BitVec 32 := 1#32
  let v1824 : BitVec 32 := Scalar.muli v13 c1_i32_1559
  let v1825 : BitVec 32 := Scalar.addi c0_i32_1560 v1824
  v1825.toNat
def k0_dev66 (d0 : Dev nD) : Nat :=
  let c0_i32_1580 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1579 : BitVec 32 := 1#32
  let v1849 : BitVec 32 := Scalar.muli v13 c1_i32_1579
  let v1850 : BitVec 32 := Scalar.addi c0_i32_1580 v1849
  v1850.toNat
def k0_dev67 (d0 : Dev nD) : Nat :=
  let c0_i32_1597 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1596 : BitVec 32 := 1#32
  let v1869 : BitVec 32 := Scalar.muli v13 c1_i32_1596
  let v1870 : BitVec 32 := Scalar.addi c0_i32_1597 v1869
  v1870.toNat
def k0_dev68 (d0 : Dev nD) : Nat :=
  let c0_i32_1612 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1611 : BitVec 32 := 1#32
  let v1883 : BitVec 32 := Scalar.muli v13 c1_i32_1611
  let v1884 : BitVec 32 := Scalar.addi c0_i32_1612 v1883
  v1884.toNat
def k0_dev69 (d0 : Dev nD) : Nat :=
  let c0_i32_1627 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1626 : BitVec 32 := 1#32
  let v1897 : BitVec 32 := Scalar.muli v24 c1_i32_1626
  let v1898 : BitVec 32 := Scalar.addi c0_i32_1627 v1897
  v1898.toNat
def k0_dev70 (d0 : Dev nD) : Nat :=
  let c0_i32_1642 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1641 : BitVec 32 := 1#32
  let v1911 : BitVec 32 := Scalar.muli v24 c1_i32_1641
  let v1912 : BitVec 32 := Scalar.addi c0_i32_1642 v1911
  v1912.toNat
def k0_dev71 (d0 : Dev nD) : Nat :=
  let c0_i32_1660 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1659 : BitVec 32 := 1#32
  let v1930 : BitVec 32 := Scalar.muli v24 c1_i32_1659
  let v1931 : BitVec 32 := Scalar.addi c0_i32_1660 v1930
  v1931.toNat
def k0_dev72 (d0 : Dev nD) : Nat :=
  let c0_i32_1680 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1679 : BitVec 32 := 1#32
  let v1955 : BitVec 32 := Scalar.muli v24 c1_i32_1679
  let v1956 : BitVec 32 := Scalar.addi c0_i32_1680 v1955
  v1956.toNat
def k0_dev73 (d0 : Dev nD) : Nat :=
  let c0_i32_1700 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1699 : BitVec 32 := 1#32
  let v1980 : BitVec 32 := Scalar.muli v13 c1_i32_1699
  let v1981 : BitVec 32 := Scalar.addi c0_i32_1700 v1980
  v1981.toNat
def k0_dev74 (d0 : Dev nD) : Nat :=
  let c0_i32_1720 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1719 : BitVec 32 := 1#32
  let v2005 : BitVec 32 := Scalar.muli v13 c1_i32_1719
  let v2006 : BitVec 32 := Scalar.addi c0_i32_1720 v2005
  v2006.toNat
def k0_dev75 (d0 : Dev nD) : Nat :=
  let c0_i32_1737 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1736 : BitVec 32 := 1#32
  let v2025 : BitVec 32 := Scalar.muli v13 c1_i32_1736
  let v2026 : BitVec 32 := Scalar.addi c0_i32_1737 v2025
  v2026.toNat
def k0_dev76 (d0 : Dev nD) : Nat :=
  let c0_i32_1752 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1751 : BitVec 32 := 1#32
  let v2039 : BitVec 32 := Scalar.muli v13 c1_i32_1751
  let v2040 : BitVec 32 := Scalar.addi c0_i32_1752 v2039
  v2040.toNat
def k0_dev77 (d0 : Dev nD) : Nat :=
  let c0_i32_1767 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1766 : BitVec 32 := 1#32
  let v2053 : BitVec 32 := Scalar.muli v24 c1_i32_1766
  let v2054 : BitVec 32 := Scalar.addi c0_i32_1767 v2053
  v2054.toNat
def k0_dev78 (d0 : Dev nD) : Nat :=
  let c0_i32_1782 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1781 : BitVec 32 := 1#32
  let v2067 : BitVec 32 := Scalar.muli v24 c1_i32_1781
  let v2068 : BitVec 32 := Scalar.addi c0_i32_1782 v2067
  v2068.toNat
def k0_dev79 (d0 : Dev nD) : Nat :=
  let c0_i32_1800 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1799 : BitVec 32 := 1#32
  let v2086 : BitVec 32 := Scalar.muli v24 c1_i32_1799
  let v2087 : BitVec 32 := Scalar.addi c0_i32_1800 v2086
  v2087.toNat
def k0_dev80 (d0 : Dev nD) : Nat :=
  let c0_i32_1820 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1819 : BitVec 32 := 1#32
  let v2111 : BitVec 32 := Scalar.muli v24 c1_i32_1819
  let v2112 : BitVec 32 := Scalar.addi c0_i32_1820 v2111
  v2112.toNat
def k0_dev81 (d0 : Dev nD) : Nat :=
  let c0_i32_1840 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1839 : BitVec 32 := 1#32
  let v2136 : BitVec 32 := Scalar.muli v13 c1_i32_1839
  let v2137 : BitVec 32 := Scalar.addi c0_i32_1840 v2136
  v2137.toNat
def k0_dev82 (d0 : Dev nD) : Nat :=
  let c0_i32_1860 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1859 : BitVec 32 := 1#32
  let v2161 : BitVec 32 := Scalar.muli v13 c1_i32_1859
  let v2162 : BitVec 32 := Scalar.addi c0_i32_1860 v2161
  v2162.toNat
def k0_dev83 (d0 : Dev nD) : Nat :=
  let c0_i32_1877 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1876 : BitVec 32 := 1#32
  let v2181 : BitVec 32 := Scalar.muli v13 c1_i32_1876
  let v2182 : BitVec 32 := Scalar.addi c0_i32_1877 v2181
  v2182.toNat
def k0_dev84 (d0 : Dev nD) : Nat :=
  let c0_i32_1892 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1891 : BitVec 32 := 1#32
  let v2195 : BitVec 32 := Scalar.muli v13 c1_i32_1891
  let v2196 : BitVec 32 := Scalar.addi c0_i32_1892 v2195
  v2196.toNat
def k0_dev85 (d0 : Dev nD) : Nat :=
  let c0_i32_1907 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1906 : BitVec 32 := 1#32
  let v2209 : BitVec 32 := Scalar.muli v24 c1_i32_1906
  let v2210 : BitVec 32 := Scalar.addi c0_i32_1907 v2209
  v2210.toNat
def k0_dev86 (d0 : Dev nD) : Nat :=
  let c0_i32_1922 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1921 : BitVec 32 := 1#32
  let v2223 : BitVec 32 := Scalar.muli v24 c1_i32_1921
  let v2224 : BitVec 32 := Scalar.addi c0_i32_1922 v2223
  v2224.toNat
def k0_dev87 (d0 : Dev nD) : Nat :=
  let c0_i32_1940 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1939 : BitVec 32 := 1#32
  let v2242 : BitVec 32 := Scalar.muli v24 c1_i32_1939
  let v2243 : BitVec 32 := Scalar.addi c0_i32_1940 v2242
  v2243.toNat
def k0_dev88 (d0 : Dev nD) : Nat :=
  let c0_i32_1960 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1959 : BitVec 32 := 1#32
  let v2267 : BitVec 32 := Scalar.muli v24 c1_i32_1959
  let v2268 : BitVec 32 := Scalar.addi c0_i32_1960 v2267
  v2268.toNat
def k0_dev89 (d0 : Dev nD) : Nat :=
  let c0_i32_1980 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1979 : BitVec 32 := 1#32
  let v2292 : BitVec 32 := Scalar.muli v13 c1_i32_1979
  let v2293 : BitVec 32 := Scalar.addi c0_i32_1980 v2292
  v2293.toNat
def k0_dev90 (d0 : Dev nD) : Nat :=
  let c0_i32_2000 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1999 : BitVec 32 := 1#32
  let v2317 : BitVec 32 := Scalar.muli v13 c1_i32_1999
  let v2318 : BitVec 32 := Scalar.addi c0_i32_2000 v2317
  v2318.toNat
def k0_dev91 (d0 : Dev nD) : Nat :=
  let c0_i32_2017 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2016 : BitVec 32 := 1#32
  let v2337 : BitVec 32 := Scalar.muli v13 c1_i32_2016
  let v2338 : BitVec 32 := Scalar.addi c0_i32_2017 v2337
  v2338.toNat
def k0_dev92 (d0 : Dev nD) : Nat :=
  let c0_i32_2032 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2031 : BitVec 32 := 1#32
  let v2351 : BitVec 32 := Scalar.muli v13 c1_i32_2031
  let v2352 : BitVec 32 := Scalar.addi c0_i32_2032 v2351
  v2352.toNat
def k0_dev93 (d0 : Dev nD) : Nat :=
  let c0_i32_2047 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2046 : BitVec 32 := 1#32
  let v2365 : BitVec 32 := Scalar.muli v24 c1_i32_2046
  let v2366 : BitVec 32 := Scalar.addi c0_i32_2047 v2365
  v2366.toNat
def k0_dev94 (d0 : Dev nD) : Nat :=
  let c0_i32_2062 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2061 : BitVec 32 := 1#32
  let v2379 : BitVec 32 := Scalar.muli v24 c1_i32_2061
  let v2380 : BitVec 32 := Scalar.addi c0_i32_2062 v2379
  v2380.toNat
def k0_dev95 (d0 : Dev nD) : Nat :=
  let c0_i32_2080 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2079 : BitVec 32 := 1#32
  let v2398 : BitVec 32 := Scalar.muli v24 c1_i32_2079
  let v2399 : BitVec 32 := Scalar.addi c0_i32_2080 v2398
  v2399.toNat
def k0_dev96 (d0 : Dev nD) : Nat :=
  let c0_i32_2100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2099 : BitVec 32 := 1#32
  let v2423 : BitVec 32 := Scalar.muli v24 c1_i32_2099
  let v2424 : BitVec 32 := Scalar.addi c0_i32_2100 v2423
  v2424.toNat
def k0_dev97 (d0 : Dev nD) : Nat :=
  let c0_i32_2120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2119 : BitVec 32 := 1#32
  let v2448 : BitVec 32 := Scalar.muli v13 c1_i32_2119
  let v2449 : BitVec 32 := Scalar.addi c0_i32_2120 v2448
  v2449.toNat
def k0_dev98 (d0 : Dev nD) : Nat :=
  let c0_i32_2140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2139 : BitVec 32 := 1#32
  let v2473 : BitVec 32 := Scalar.muli v13 c1_i32_2139
  let v2474 : BitVec 32 := Scalar.addi c0_i32_2140 v2473
  v2474.toNat
def k0_dev99 (d0 : Dev nD) : Nat :=
  let c0_i32_2157 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2156 : BitVec 32 := 1#32
  let v2493 : BitVec 32 := Scalar.muli v13 c1_i32_2156
  let v2494 : BitVec 32 := Scalar.addi c0_i32_2157 v2493
  v2494.toNat
def k0_dev100 (d0 : Dev nD) : Nat :=
  let c0_i32_2172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2171 : BitVec 32 := 1#32
  let v2507 : BitVec 32 := Scalar.muli v13 c1_i32_2171
  let v2508 : BitVec 32 := Scalar.addi c0_i32_2172 v2507
  v2508.toNat
def k0_dev101 (d0 : Dev nD) : Nat :=
  let c0_i32_2187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2186 : BitVec 32 := 1#32
  let v2521 : BitVec 32 := Scalar.muli v24 c1_i32_2186
  let v2522 : BitVec 32 := Scalar.addi c0_i32_2187 v2521
  v2522.toNat
def k0_dev102 (d0 : Dev nD) : Nat :=
  let c0_i32_2202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2201 : BitVec 32 := 1#32
  let v2535 : BitVec 32 := Scalar.muli v24 c1_i32_2201
  let v2536 : BitVec 32 := Scalar.addi c0_i32_2202 v2535
  v2536.toNat
def k0_dev103 (d0 : Dev nD) : Nat :=
  let c0_i32_2220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2219 : BitVec 32 := 1#32
  let v2554 : BitVec 32 := Scalar.muli v24 c1_i32_2219
  let v2555 : BitVec 32 := Scalar.addi c0_i32_2220 v2554
  v2555.toNat
def k0_dev104 (d0 : Dev nD) : Nat :=
  let c0_i32_2240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2239 : BitVec 32 := 1#32
  let v2579 : BitVec 32 := Scalar.muli v24 c1_i32_2239
  let v2580 : BitVec 32 := Scalar.addi c0_i32_2240 v2579
  v2580.toNat
def k0_dev105 (d0 : Dev nD) : Nat :=
  let c0_i32_2260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2259 : BitVec 32 := 1#32
  let v2604 : BitVec 32 := Scalar.muli v13 c1_i32_2259
  let v2605 : BitVec 32 := Scalar.addi c0_i32_2260 v2604
  v2605.toNat
def k0_dev106 (d0 : Dev nD) : Nat :=
  let c0_i32_2280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2279 : BitVec 32 := 1#32
  let v2629 : BitVec 32 := Scalar.muli v13 c1_i32_2279
  let v2630 : BitVec 32 := Scalar.addi c0_i32_2280 v2629
  v2630.toNat
def k0_dev107 (d0 : Dev nD) : Nat :=
  let c0_i32_2297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2296 : BitVec 32 := 1#32
  let v2649 : BitVec 32 := Scalar.muli v13 c1_i32_2296
  let v2650 : BitVec 32 := Scalar.addi c0_i32_2297 v2649
  v2650.toNat
def k0_dev108 (d0 : Dev nD) : Nat :=
  let c0_i32_2312 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2311 : BitVec 32 := 1#32
  let v2663 : BitVec 32 := Scalar.muli v13 c1_i32_2311
  let v2664 : BitVec 32 := Scalar.addi c0_i32_2312 v2663
  v2664.toNat
def k0_dev109 (d0 : Dev nD) : Nat :=
  let c0_i32_2327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2326 : BitVec 32 := 1#32
  let v2677 : BitVec 32 := Scalar.muli v24 c1_i32_2326
  let v2678 : BitVec 32 := Scalar.addi c0_i32_2327 v2677
  v2678.toNat
def k0_dev110 (d0 : Dev nD) : Nat :=
  let c0_i32_2342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2341 : BitVec 32 := 1#32
  let v2691 : BitVec 32 := Scalar.muli v24 c1_i32_2341
  let v2692 : BitVec 32 := Scalar.addi c0_i32_2342 v2691
  v2692.toNat
def k0_dev111 (d0 : Dev nD) : Nat :=
  let c0_i32_2360 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2359 : BitVec 32 := 1#32
  let v2710 : BitVec 32 := Scalar.muli v24 c1_i32_2359
  let v2711 : BitVec 32 := Scalar.addi c0_i32_2360 v2710
  v2711.toNat
def k0_dev112 (d0 : Dev nD) : Nat :=
  let c0_i32_2380 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2379 : BitVec 32 := 1#32
  let v2735 : BitVec 32 := Scalar.muli v24 c1_i32_2379
  let v2736 : BitVec 32 := Scalar.addi c0_i32_2380 v2735
  v2736.toNat
def k0_dev113 (d0 : Dev nD) : Nat :=
  let c0_i32_2400 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2399 : BitVec 32 := 1#32
  let v2760 : BitVec 32 := Scalar.muli v13 c1_i32_2399
  let v2761 : BitVec 32 := Scalar.addi c0_i32_2400 v2760
  v2761.toNat
def k0_dev114 (d0 : Dev nD) : Nat :=
  let c0_i32_2420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2419 : BitVec 32 := 1#32
  let v2785 : BitVec 32 := Scalar.muli v13 c1_i32_2419
  let v2786 : BitVec 32 := Scalar.addi c0_i32_2420 v2785
  v2786.toNat
def k0_dev115 (d0 : Dev nD) : Nat :=
  let c0_i32_2437 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2436 : BitVec 32 := 1#32
  let v2805 : BitVec 32 := Scalar.muli v13 c1_i32_2436
  let v2806 : BitVec 32 := Scalar.addi c0_i32_2437 v2805
  v2806.toNat
def k0_dev116 (d0 : Dev nD) : Nat :=
  let c0_i32_2452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2451 : BitVec 32 := 1#32
  let v2819 : BitVec 32 := Scalar.muli v13 c1_i32_2451
  let v2820 : BitVec 32 := Scalar.addi c0_i32_2452 v2819
  v2820.toNat
def k0_dev117 (d0 : Dev nD) : Nat :=
  let c0_i32_2467 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2466 : BitVec 32 := 1#32
  let v2833 : BitVec 32 := Scalar.muli v24 c1_i32_2466
  let v2834 : BitVec 32 := Scalar.addi c0_i32_2467 v2833
  v2834.toNat
def k0_dev118 (d0 : Dev nD) : Nat :=
  let c0_i32_2482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2481 : BitVec 32 := 1#32
  let v2847 : BitVec 32 := Scalar.muli v24 c1_i32_2481
  let v2848 : BitVec 32 := Scalar.addi c0_i32_2482 v2847
  v2848.toNat
abbrev stage0_0 : Fin 1 → Memref sig .tc .vmem S4096x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x1024 : Shape := ⟨2, ![4096, 1024]⟩
abbrev S1024x32 : Shape := ⟨2, ![1024, 32]⟩
abbrev S4096x1 : Shape := ⟨2, ![4096, 1]⟩
abbrev S32x1024x2048 : Shape := ⟨3, ![32, 1024, 2048]⟩
abbrev S4096 : Shape := ⟨1, ![4096]⟩
abbrev S_ : Shape := ⟨0, ![]⟩
abbrev S4096x1024x2048 : Shape := ⟨3, ![4096, 1024, 2048]⟩
abbrev S4096x2048 : Shape := ⟨2, ![4096, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x32, .bf16⟩
  | .hbm, ⟨2, _⟩ => ⟨S4096x1, .i32⟩
  | .hbm, ⟨3, _⟩ => ⟨S32x1024x2048, .bf16⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S4096x1024x2048, .bf16⟩
  | .hbm, ⟨14, _⟩ => ⟨S4096x2048, .f32⟩
  | .hbm, ⟨15, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Prog.lean ====
/-
  The kernel body as a structured program: entry (the two barrier signals, the barrier wait, the four first credits, the copy
  of the device's partial product into its result block), seven reduce-scatter hops and seven all-gather hops of four streams
  each, and the four last credit waits. Each piece is a definition over the program that follows it, so that the run is
  proved once per piece, at a symbolic device, hop and stream. `body_eq` says that the printed body is this program.
-/
module

public import proofs.«01_k».proof.Proof.Gen.KernelIdeal.Skeleton
public import proofs.«01_k».proof.Proof.Gen.KernelIdeal.Regions
public import proofs.«01_k».proof.Proof.Gen.KernelIdeal.Launch
public import proofs.«01_k».proof.Proof.Gen.KernelIdeal.Points
public import Idealize.ShloMosaic.Lib.Pipeline.Regions

@[expose] public section

noncomputable section

namespace Cert.RingProof

open Cert.KernelIdeal Cert.KernelIdeal.Gen
open Idealize.ShloMosaic Idealize.ShloMosaic.TcCoe Idealize.SL.Sem

variable {F : FTy → Type} [FloatOps F]

/-- What the body and its pieces are: a program of one thread with no result. -/
abbrev Code (F : FTy → Type) [FloatOps F] := Prog (TpuEff nD τ sig (Elt F) Λ₀ .tc) PUnit

/-- The block the body reads (the device's partial product), the block it writes, and the four landing buffers. -/
abbrev inM : Memref sig .tc .vmem S4096x2048 .bf16 := Memref.whole cc0_stg0_0
abbrev outM : Memref sig .tc .vmem S4096x2048 .bf16 := Memref.whole cc0_stg1_0
abbrev landM : Memref sig .tc .vmem S4x128x2048 .bf16 := Memref.whole cc0_scratch0

theorem wholeOut : outM.IsWhole := Memref.isWhole_whole _
theorem wholeLand : landM.IsWhole := Memref.isWhole_whole _

/-- The semaphores: the runtime's barrier, and per stream the credit, the send and the receive semaphore. -/
abbrev barS : Sem sig := sig.barrier 0 rfl
def credS (q : Fin 4) : Sem sig := ⟨q.val, by have := q.isLt; show q.val < 5; omega⟩
def sendS (q : Fin 4) : DmaSem sig := ⟨2 + q.val, by have := q.isLt; show _ < 10; omega⟩
def recvS (q : Fin 4) : DmaSem sig := ⟨6 + q.val, by have := q.isLt; show _ < 10; omega⟩

/-- A stream's copies go to the right neighbour (streams 0 and 1) or to the left one; its credits go the other way. -/
def toDev (d : Dev nD) : Fin 4 → Dev nD
  | 0 | 1 => ⟨k0_dev2 d, k0_dev2_lt d⟩
  | 2 | 3 => ⟨k0_dev1 d, k0_dev1_lt d⟩
def fromDev (d : Dev nD) : Fin 4 → Dev nD
  | 0 | 1 => ⟨k0_dev1 d, k0_dev1_lt d⟩
  | 2 | 3 => ⟨k0_dev2 d, k0_dev2_lt d⟩

/-- A distance `n` back along a stream, and one forward, as the words the body computes with. -/
def backW : Fin 4 → ℕ → BitVec 32
  | 0, n | 1, n => BitVec.ofNat 32 n
  | 2, n | 3, n => BitVec.ofNat 32 ((4294967296 - n) % 4294967296)
def fwdW : Fin 4 → ℕ → BitVec 32
  | 0, n | 1, n => BitVec.ofNat 32 ((4294967297 - n) % 4294967296)
  | 2, n | 3, n => BitVec.ofNat 32 ((4294967295 + n) % 4294967296)

/-- The offset of the piece a device sends at reduce-scatter hop `s`, of the one it adds into, and of the one it sends at
    all-gather hop `s`. -/
def offSend (d : Dev nD) (s : ℕ) (q : Fin 4) : Fin 2 → ℕ := k0_off1 d (backW q s) (BitVec.ofNat 32 (128 * q.val))
def offAdd (d : Dev nD) (s : ℕ) (q : Fin 4) : Fin 2 → ℕ := k0_off2 d (backW q (s + 1)) (BitVec.ofNat 32 (128 * q.val))
def offGather (d : Dev nD) (s : ℕ) (q : Fin 4) : Fin 2 → ℕ := k0_off3 d (fwdW q s) (BitVec.ofNat 32 (128 * q.val))

/-- The offset of the rows of stream `q` in chunk `j`. -/
def rowOff (j : Fin 8) (q : Fin 4) : Fin 2 → ℕ := ![512 * j.val + 128 * q.val, 0]

theorem rowOff_inb (j : Fin 8) (q : Fin 4) (a : Fin 2) : rowOff j q a + S128x2048.size a ≤ S4096x2048.size a := by
  revert j q a; decide +kernel

/-- The chunk `n` back from device `d` along stream `q`. -/
def back (d : Fin 8) (q : Fin 4) (n : ℕ) : Fin 8 :=
  match q with
  | 0 | 1 => ⟨(d.val + 7 * n) % 8, Nat.mod_lt _ (by decide)⟩
  | 2 | 3 => ⟨(d.val + n) % 8, Nat.mod_lt _ (by decide)⟩

theorem offSend_eq : ∀ (d : Dev nD) (s : Fin 7) (q : Fin 4), offSend d s.val q = rowOff (back d q s.val) q := by decide +kernel
theorem offAdd_eq : ∀ (d : Dev nD) (s : Fin 7) (q : Fin 4), offAdd d s.val q = rowOff (back d q (s.val + 1)) q := by decide +kernel
theorem offGather_eq : ∀ (d : Dev nD) (s : Fin 7) (q : Fin 4), offGather d s.val q = rowOff (back d q (s.val + 7)) q := by
  decide +kernel

/-- The rectangle of 128 rows at an offset of the form above. -/
def rect (o : Fin 2 → ℕ) (h : ∃ j q, o = rowOff j q) : Rect S4096x2048 :=
  Rect.unit (s := S4096x2048) o S128x2048.size fun a => by obtain ⟨j, q, rfl⟩ := h; exact rowOff_inb j q a

theorem rect_words (o : Fin 2 → ℕ) (h : ∃ j q, o = rowOff j q) : (rect o h).WholeWords (EltTy.packing .bf16) := by
  obtain ⟨j, q, rfl⟩ := h; revert j q; decide +kernel
theorem rect_packed (o : Fin 2 → ℕ) (h : ∃ j q, o = rowOff j q) : (rect o h).PackedRows (EltTy.packing .bf16) := by
  obtain ⟨j, q, rfl⟩ := h; revert j q; decide +kernel

/-- The 128 rows of the result block at an offset, and the landing buffer of a stream. -/
abbrev piece (o : Fin 2 → ℕ) (h : ∃ j q, o = rowOff j q) : Memref sig .tc .vmem S128x2048 .bf16 :=
  outM.slice (rect o h) (fun _ => rfl)

theorem land_inb (q : Fin 4) (a : Fin 3) : (![q.val, 0, 0] : Fin 3 → ℕ) a + S1x128x2048.size a ≤ S4x128x2048.size a := by
  revert q a; decide +kernel
abbrev landRect (q : Fin 4) : Rect S4x128x2048 := Rect.unit (s := S4x128x2048) ![q.val, 0, 0] S1x128x2048.size (land_inb q)
theorem land_words (q : Fin 4) : (landRect q).WholeWords (EltTy.packing .bf16) := by revert q; decide +kernel
abbrev land (q : Fin 4) : Memref sig .tc .vmem S128x2048 .bf16 :=
  (landM.slice (landRect q) (fun _ => rfl)).squeeze S128x2048 squeezes_S1x128x2048_S128x2048

/-- One stream's start of a hop: wait for the credit, start the copy of a piece. -/
def issueTo (q : Fin 4) (o : Fin 2 → ℕ) (h : ∃ j q, o = rowOff j q) (dst : Memref sig .tc .vmem S128x2048 .bf16)
    (hd : dst.view.WordExact) (tgt : Dev nD) (k : Code F) : Code F :=
  .op (.semWait (credS q) (1#32).toInt) fun _ =>
  .op (.enqueueDma (piece o h) (.remote (Dev.tc tgt) dst (.dma (sendS q))) (.dma (recvS q))
    (wholeOut.wordExact_slice rfl _ (rect_words o h)) hd ⟨⟨rfl, Or.inl rfl⟩, trivial⟩) fun _ => k

/-- One stream's end of a reduce-scatter hop: wait for the own copy and for the incoming one, add what landed into the piece
    at `o'`, and give the sender its credit. -/
def reduceAt (q : Fin 4) (o : Fin 2 → ℕ) (h : ∃ j q, o = rowOff j q) (o' : Fin 2 → ℕ) (h' : ∃ j q, o' = rowOff j q)
    (fr : Dev nD) (k : Code F) : Code F :=
  .op (.waitDma2 (sendS q) (land q) (piece o h) ((wholeLand.wordExact_slice rfl _ (land_words q)).reshape _ _)
    (wholeOut.wordExact_slice rfl _ (rect_words o h))) fun _ =>
  .op (.waitDma2 (recvS q) (piece o h) (land q) (wholeOut.wordExact_slice rfl _ (rect_words o h))
    ((wholeLand.wordExact_slice rfl _ (land_words q)).reshape _ _)) fun _ =>
  .op (.load outM (rect o' h').toLoadRect (View.loadsAt_vmem h_S128x2048)) fun (old : Vec F S128x2048 .bf16) =>
  .op (.load landM (landRect q).toLoadRect (View.loadsAt_vmem h_S1x128x2048)) fun (new : Vec F S1x128x2048 .bf16) =>
  .op (.load outM (rect o' h').toLoadRect (View.loadsAt_vmem h_S128x2048)) fun (_ : Vec F S128x2048 .bf16) =>
  .op (.store outM (rect o' h') (k0_pay2 old new) Finset.univ
    (View.stores_vmem h_S128x2048 (wholeOut.storeExact_slice rfl _ (rect_packed o' h')) (fun _ => rfl)) (.inl rfl)) fun _ =>
  .op (.semSignal (Dev.tc fr) (credS q) (1#32).toInt) fun _ => k

/-- One stream's end of an all-gather hop: wait for both copies, give the sender its credit. -/
def gatherAt (q : Fin 4) (o : Fin 2 → ℕ) (h : ∃ j q, o = rowOff j q) (fr : Dev nD) (k : Code F) : Code F :=
  .op (.waitDma2 (sendS q) (piece o h) (piece o h) (wholeOut.wordExact_slice rfl _ (rect_words o h))
    (wholeOut.wordExact_slice rfl _ (rect_words o h))) fun _ =>
  .op (.waitDma2 (recvS q) (piece o h) (piece o h) (wholeOut.wordExact_slice rfl _ (rect_words o h))
    (wholeOut.wordExact_slice rfl _ (rect_words o h))) fun _ =>
  .op (.semSignal (Dev.tc fr) (credS q) (1#32).toInt) fun _ => k

/-- The four streams one after the other, and the seven hops. -/
def streams (f : Fin 4 → Code F → Code F) (k : Code F) : Code F := f 0 (f 1 (f 2 (f 3 k)))
def hops (f : Fin 7 → Code F → Code F) (k : Code F) : Code F := f 0 (f 1 (f 2 (f 3 (f 4 (f 5 (f 6 k))))))

/-- A reduce-scatter hop of a device. -/
def reduceHop (d : Dev nD) (s : Fin 7) (k : Code F) : Code F :=
  streams (fun q => issueTo q (offSend d s q) ⟨_, _, offSend_eq d s q⟩ (land q)
      ((wholeLand.wordExact_slice rfl _ (land_words q)).reshape _ _) (toDev d q)) <|
  streams (fun q => reduceAt q (offSend d s q) ⟨_, _, offSend_eq d s q⟩ (offAdd d s q) ⟨_, _, offAdd_eq d s q⟩
      (fromDev d q)) k

/-- An all-gather hop of a device. -/
def gatherHop (d : Dev nD) (s : Fin 7) (k : Code F) : Code F :=
  streams (fun q => issueTo q (offGather d s q) ⟨_, _, offGather_eq d s q⟩ (piece (offGather d s q) ⟨_, _, offGather_eq d s q⟩)
      (wholeOut.wordExact_slice rfl _ (rect_words _ _)) (toDev d q)) <|
  streams (fun q => gatherAt q (offGather d s q) ⟨_, _, offGather_eq d s q⟩ (fromDev d q)) k

/-- The whole block of a [4096, 2048] buffer. -/
abbrev wholeRect : Rect S4096x2048 := Rect.unit (s := S4096x2048) ![0, 0] S4096x2048.size inb_S4096x2048_S4096x2048_0_0

/-- The entry: the barrier, the first credits, the copy of the partial product. -/
def entry (d : Dev nD) (k : Code F) : Code F :=
  .op (.semSignal (Dev.tc (⟨k0_dev1 d, k0_dev1_lt d⟩ : Dev nD)) barS (1#32).toInt) fun _ =>
  .op (.semSignal (Dev.tc (⟨k0_dev2 d, k0_dev2_lt d⟩ : Dev nD)) barS (1#32).toInt) fun _ =>
  .op (.semWait barS (2#32).toInt) fun _ =>
  streams (fun q k => .op (.semSignal (Dev.tc (fromDev d q)) (credS q) (1#32).toInt) fun _ => k) <|
  .op (.load inM wholeRect.toLoadRect (View.loadsAt_vmem h_S4096x2048)) fun (v : Vec F S4096x2048 .bf16) =>
  .op (.load outM wholeRect.toLoadRect (View.loadsAt_vmem h_S4096x2048)) fun (_ : Vec F S4096x2048 .bf16) =>
  .op (.store outM wholeRect (k0_pay1 v) Finset.univ
    (View.stores_vmem h_S4096x2048 (wholeOut.storeExact_slice rfl _ packedbf16_S4096x2048_S4096x2048_0_0) (fun _ => rfl)) (.inl rfl))
    fun _ => k

/-- The body of a device. -/
def ring : Code F :=
  .op .deviceId fun d =>
  entry d <| hops (reduceHop d) <| hops (gatherHop d) <|
  streams (fun q k => .op (.semWait (credS q) (1#32).toInt) fun _ => k) (.ret ⟨⟩)

/-- The printed body is that program. -/
theorem body_eq : cc0__ar_body (F := F) inM (Memref.isWhole_whole _) outM (Memref.isWhole_whole _) landM (Memref.isWhole_whole _)
    cc0_scratch1 cc0_scratch2 cc0_scratch3 = ring := by
  chain_rfl

end Cert.RingProof
-- ==== Proof.Sched.lean ====
/-
  The protocol of the ring: which payment makes which round of which semaphore, and what each payment carries. A device has, per
  stream, a credit semaphore (paid by the neighbour it sends to), a send semaphore (paid by its own copies) and a receive
  semaphore (paid by the neighbour it receives from); round `h` of each belongs to hop `h`, hops 0..6 being the reduce-scatter's
  and 7..13 the all-gather's.
-/
module

public import proofs.«01_k».proof.Proof.Prog
public import Idealize.ShloMosaic.Lib.Pipeline.Kit
public import Idealize.ShloMosaic.Lib.Rounds
public import Idealize.ShloMosaic.Lib.StableHlo
public import Idealize.ShloMosaic.Lib.Tactic
public import Idealize.ShloMosaic.PureOps
public import Idealize.ShloMosaic.Lib.Pipeline.RegionTalk

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The algebra: the pipeline's part and the protocol's. -/
abbrev UB : Type := URounds (GSem nD τ sig) Bool
abbrev UU : Type := UR sig nD τ × UB
abbrev MM (F : FTy → Type) : Type := MT nD τ sig ℕ (Elt F) ℕ UU ℕ
abbrev EP : Emb (UR sig nD τ) (MM F) := embL
abbrev ER : Emb UB (MM F) := embR

/-! ## Neighbours -/

theorem toDev_fromDev : ∀ (c : Dev nD) (q : Fin 4), toDev (fromDev c q) q = c := by decide +kernel
theorem fromDev_toDev : ∀ (c : Dev nD) (q : Fin 4), fromDev (toDev c q) q = c := by decide +kernel
theorem back_succ (c : Dev nD) (q : Fin 4) (n : ℕ) : back (toDev c q) q (n + 1) = back c q n := by
  have h : ∀ (c : Dev nD) (q : Fin 4), ((toDev c q).val + 7) % 8 = c.val ∧ q.val < 2 ∨ ((toDev c q).val + 1) % 8 = c.val ∧ 2 ≤ q.val := by
    decide +kernel
  have hh := h c q
  match q with
  | 0 | 1 => refine Fin.ext ?_; simp only [back]; simp at hh; omega
  | 2 | 3 => refine Fin.ext ?_; simp only [back]; simp at hh; omega
theorem back_add8 (c : Dev nD) (q : Fin 4) (n : ℕ) : back c q (n + 8) = back c q n := by
  match q with
  | 0 | 1 | 2 | 3 => refine Fin.ext ?_; simp only [back]; omega
theorem back_from (c : Dev nD) (q : Fin 4) (n : ℕ) : back (fromDev c q) q n = back c q (n + 1) := by
  rw [← back_succ (fromDev c q) q n, toDev_fromDev]

/-! ## Cells -/

abbrev barCell (c : Dev nD) : GSem nD τ sig := ((c : Thread nD τ), .reg barS)
abbrev credCell (c : Dev nD) (q : Fin 4) : GSem nD τ sig := ((c : Thread nD τ), .reg (credS q))
abbrev sendCell (c : Dev nD) (q : Fin 4) : GSem nD τ sig := ((c : Thread nD τ), .dma (sendS q))
abbrev recvCell (c : Dev nD) (q : Fin 4) : GSem nD τ sig := ((c : Thread nD τ), .dma (recvS q))

/-- What a semaphore is for. -/
inductive Role
  | bar | cred (q : Fin 4) | send (q : Fin 4) | recv (q : Fin 4) | other
  deriving DecidableEq

def role : SemLoc sig → Role
  | .reg s => if h : s.val < 4 then .cred ⟨s.val, h⟩ else .bar
  | .dma s => if s.val < 2 then .other else if h : s.val < 6 then .send ⟨s.val - 2, by omega⟩ else
      if h : s.val < 10 then .recv ⟨s.val - 6, by omega⟩ else .other

@[simp] theorem role_bar : role (.reg barS) = .bar := by decide
@[simp] theorem role_cred (q : Fin 4) : role (.reg (credS q)) = .cred q := by revert q; decide
@[simp] theorem role_send (q : Fin 4) : role (.dma (sendS q)) = .send q := by revert q; decide
@[simp] theorem role_recv (q : Fin 4) : role (.dma (recvS q)) = .recv q := by revert q; decide

/-! ## Pieces and what they hold -/

/-- The contents of a [4096, 2048] block. -/
abbrev Block (F : FTy → Type) : Type := Vec F S4096x2048 .bf16

/-- The rows of stream `q` in chunk `j` of the result block. -/
abbrev pc (j : Fin 8) (q : Fin 4) : Memref sig .tc .vmem S128x2048 .bf16 := piece (rowOff j q) ⟨j, q, rfl⟩

/-- The bytes a copy counts for. -/
abbrev N : ℕ := (pc 0 0).view.dmaCredit
theorem N_pos : 0 < N := View.dmaCredit_pos _ (by decide)
theorem pc_credit (j : Fin 8) (q : Fin 4) : (pc j q).view.dmaCredit = N := rfl
theorem land_credit (q : Fin 4) : (land q).view.dmaCredit = N := rfl

section
variable (c : Dev nD) (j : Fin 8) (q : Fin 4)

/-- Device `c` holds the rows `(j, q)` of its result block, which agree with the block `W`. -/
def pieceAt (W : Block F) : sProp (MM F) :=
  (pc j q).view.loc (c : Thread nD τ) ↦[(pc j q).view.set]{fullShare} W
/-- ... at some contents. -/
def pieceAny : sProp (MM F) := iprop(∃ W : Block F, pieceAt c j q W)

/-- Device `c` holds the landing buffer of stream `q` at contents `f`. -/
def landPts (f : Buf (Elt F) ((land q).view.loc (c : Thread nD τ))) : sProp (MM F) :=
  (land q).view.loc (c : Thread nD τ) ↦[(land q).view.set]{fullShare} f
/-- ... reading as the rows `(j, q)` of `W`. -/
def landAt (W : Block F) : sProp (MM F) :=
  iprop(∃ f, ⌜(land q).view.read (Elt F) f = (pc j q).view.read (Elt F) W⌝ ∗ landPts c q f)
def landAny : sProp (MM F) := iprop(∃ f, landPts (F := F) c q f)

instance (W : Block F) : BI.Storable (upEmb : UEmb _ (MM F)) (pieceAt c j q W) := by unfold pieceAt; infer_instance
instance : BI.Storable (upEmb : UEmb _ (MM F)) (pieceAny (F := F) c j q) := by unfold pieceAny; infer_instance
instance (f : Buf (Elt F) ((land q).view.loc (c : Thread nD τ))) : BI.Storable (upEmb : UEmb _ (MM F)) (landPts c q f) := by
  unfold landPts; infer_instance
instance (W : Block F) : BI.Storable (upEmb : UEmb _ (MM F)) (landAt c j q W) := by unfold landAt; infer_instance
instance : BI.Storable (upEmb : UEmb _ (MM F)) (landAny (F := F) c q) := by unfold landAny; infer_instance

end

/-! ## The values -/

/-- Entrywise sum of two blocks. -/
def addB (A B : Block F) : Block F := addf A B

/-- What stream `q` carries into device `c` after `n` hops, as a whole block of which the rows of one chunk are meant: the own
    partial product first, then seven times the neighbour's added to the own, then the neighbour's unchanged. -/
def acc (X : Dev nD → Block F) (q : Fin 4) : ℕ → Dev nD → Block F
  | 0, c => X c
  | n + 1, c => if n < 7 then addB (X c) (acc X q n (fromDev c q)) else acc X q n (fromDev c q)

theorem acc_add (X : Dev nD → Block F) (q : Fin 4) {n : ℕ} (h : n < 7) (c : Dev nD) :
    acc X q (n + 1) c = addB (X c) (acc X q n (fromDev c q)) := by simp only [acc]; rw [if_pos h]
theorem acc_pass (X : Dev nD → Block F) (q : Fin 4) {n : ℕ} (h : 7 ≤ n) (c : Dev nD) :
    acc X q (n + 1) c = acc X q n (fromDev c q) := by simp only [acc]; rw [if_neg (by omega)]

/-- The chunk of a row and its stream. -/
def chunkOf (i : S4096x2048.Idx) : Fin 8 := ⟨(i 0).val / 512, by have h : (i 0).val < 4096 := (i 0).isLt; omega⟩
def streamOf (i : S4096x2048.Idx) : Fin 4 := ⟨(i 0).val % 512 / 128, by omega⟩

/-- The result: every entry is the complete sum its stream carries through its chunk's last device. -/
def ringSum (X : Dev nD → Block F) : Block F := fun i =>
  acc X (streamOf i) 7 (back (chunkOf i) (streamOf i) 1) i

/-! ## The payments -/

section
variable (X : Dev nD → Block F) (c : Dev nD)

/-- The neighbour that pays duty `b` of the barrier. -/
def nb (c : Dev nD) (b : Bool) : Dev nD := if b then ⟨k0_dev2 c, k0_dev2_lt c⟩ else ⟨k0_dev1 c, k0_dev1_lt c⟩

/-- Paid to the barrier of `c` by its neighbour: the neighbour's credit semaphores are at their first round. -/
def barPay (b : Bool) : sProp (MM F) := bigSep Finset.univ fun q : Fin 4 => reached ER (credCell (nb c b) q) 0

/-- Paid to the credit semaphore of `c` by the neighbour it sends to, for hop `h`: that neighbour's landing place, and that its
    receive semaphore is at that round. -/
def credPay (q : Fin 4) (h : ℕ) : sProp (MM F) :=
  if h < 7 then iprop(landAny (toDev c q) q ∗ reached ER (recvCell (toDev c q) q) h)
  else if h < 14 then iprop(pieceAny (toDev c q) (back c q h) q ∗ reached ER (recvCell (toDev c q) q) h)
  else iprop(emp)

/-- Paid to the send semaphore by the own copy of hop `h`: the rows sent. -/
def sendPay (q : Fin 4) (h : ℕ) : sProp (MM F) := pieceAt c (back c q h) q (acc X q h c)

/-- Paid to the receive semaphore by the neighbour's copy of hop `h`: what landed, and that the neighbour has used the credit. -/
def recvPay (q : Fin 4) (h : ℕ) : sProp (MM F) :=
  iprop((if h < 7 then landAt c (back c q (h + 1)) q (acc X q h (fromDev c q))
      else pieceAt c (back c q (h + 1)) q (acc X q h (fromDev c q)))
    ∗ reached ER (credCell (fromDev c q) q) (h + 1))

def payOf : Role → ℕ → Bool → sProp (MM F)
  | .bar, _, b => barPay c b
  | .cred q, h, _ => credPay c q h
  | .send q, h, _ => sendPay X c q h
  | .recv q, h, _ => recvPay X c q h
  | .other, _, _ => iprop(emp)

instance (b : Bool) : BI.Storable (upEmb : UEmb _ (MM F)) (barPay (F := F) c b) := by unfold barPay; infer_instance
instance (q : Fin 4) (h : ℕ) : BI.Storable (upEmb : UEmb _ (MM F)) (credPay (F := F) c q h) := by
  unfold credPay; (repeat' split) <;> infer_instance
instance (q : Fin 4) (h : ℕ) : BI.Storable (upEmb : UEmb _ (MM F)) (sendPay X c q h) := by unfold sendPay; infer_instance
instance (q : Fin 4) (h : ℕ) : BI.Storable (upEmb : UEmb _ (MM F)) (recvPay X c q h) := by
  unfold recvPay; split <;> infer_instance

end

def dutyOf : Role → ℕ → Finset Bool
  | .bar, r => if r = 0 then Finset.univ else ∅
  | .cred _, r => if r < 15 then {false} else ∅
  | .send _, r | .recv _, r => if r < 14 then {false} else ∅
  | .other, _ => ∅

def unitOf : Role → ℕ
  | .send _ | .recv _ => N
  | _ => 1

/-- The schedule. -/
def Rd (X : Dev nD → Block F) : Rounds.Schedule (GSem nD τ sig) Bool (MM F) where
  duties g r := if g.1.2 = .tc then dutyOf (role g.2) r else ∅
  unitless _ := False
  amount g _ _ := unitOf (role g.2)
  payload g r d := payOf X g.1.1 (role g.2) r d
  amount_pos g r d _ := by
    cases role g.2 <;> simp only [unitOf] <;> first | exact Nat.one_pos | exact N_pos

instance Rd_storable (X : Dev nD → Block F) (g : GSem nD τ sig) (r : ℕ) (d : Bool) :
    BI.Storable (upEmb : UEmb _ (MM F)) ((Rd X).payload g r d) := by
  show BI.Storable upEmb (payOf X g.1.1 (role g.2) r d)
  cases role g.2 <;> simp only [payOf] <;> infer_instance

section
variable (X : Dev nD → Block F) (c : Dev nD) (q : Fin 4)

theorem duties_bar : (Rd X).duties (barCell c) 0 = Finset.univ := by simp [Rd, dutyOf]
theorem duties_bar_later (r : ℕ) (h : 1 ≤ r) : (Rd X).duties (barCell c) r = ∅ := by
  simp only [Rd, role_bar, dutyOf]; rw [if_neg (show r ≠ 0 by omega), ite_self]
theorem duties_cred {r : ℕ} (h : r < 15) : (Rd X).duties (credCell c q) r = {false} := by simp [Rd, dutyOf, h]
theorem duties_cred_later (r : ℕ) (h : 15 ≤ r) : (Rd X).duties (credCell c q) r = ∅ := by simp [Rd, dutyOf]; omega
theorem duties_send {r : ℕ} (h : r < 14) : (Rd X).duties (sendCell c q) r = {false} := by simp [Rd, dutyOf, h]
theorem duties_send_later (r : ℕ) (h : 14 ≤ r) : (Rd X).duties (sendCell c q) r = ∅ := by simp [Rd, dutyOf]; omega
theorem duties_recv {r : ℕ} (h : r < 14) : (Rd X).duties (recvCell c q) r = {false} := by simp [Rd, dutyOf, h]
theorem duties_recv_later (r : ℕ) (h : 14 ≤ r) : (Rd X).duties (recvCell c q) r = ∅ := by simp [Rd, dutyOf]; omega

theorem amount_bar (r : ℕ) (d : Bool) : (Rd X).amount (barCell c) r d = 1 := by simp [Rd, unitOf]
theorem amount_cred (r : ℕ) (d : Bool) : (Rd X).amount (credCell c q) r d = 1 := by simp [Rd, unitOf]
theorem amount_send (r : ℕ) (d : Bool) : (Rd X).amount (sendCell c q) r d = N := by simp [Rd, unitOf]
theorem amount_recv (r : ℕ) (d : Bool) : (Rd X).amount (recvCell c q) r d = N := by simp [Rd, unitOf]

theorem payload_bar (r : ℕ) (d : Bool) : (Rd X).payload (barCell c) r d = barPay c d := by simp [Rd, payOf]
theorem payload_cred (r : ℕ) (d : Bool) : (Rd X).payload (credCell c q) r d = credPay c q r := by simp [Rd, payOf]
theorem payload_send (r : ℕ) (d : Bool) : (Rd X).payload (sendCell c q) r d = sendPay X c q r := by simp [Rd, payOf]
theorem payload_recv (r : ℕ) (d : Bool) : (Rd X).payload (recvCell c q) r d = recvPay X c q r := by simp [Rd, payOf]

theorem expect_bar : (Rd X).expect (barCell c) 0 = 2 := by
  unfold Schedule.expect Schedule.amountOf; rw [duties_bar]; simp [amount_bar]
theorem expect_cred {r : ℕ} (h : r < 15) : (Rd X).expect (credCell c q) r = 1 := by
  unfold Schedule.expect Schedule.amountOf; rw [duties_cred X c q h, Finset.sum_singleton, amount_cred]
theorem expect_send {r : ℕ} (h : r < 14) : (Rd X).expect (sendCell c q) r = N := by
  unfold Schedule.expect Schedule.amountOf; rw [duties_send X c q h, Finset.sum_singleton, amount_send]
theorem expect_recv {r : ℕ} (h : r < 14) : (Rd X).expect (recvCell c q) r = N := by
  unfold Schedule.expect Schedule.amountOf; rw [duties_recv X c q h, Finset.sum_singleton, amount_recv]

theorem rest_bar : bigSep ((Rd X).duties (barCell c) 0 \ ∅) (fun d => (Rd X).payload (barCell c) 0 d)
    = iprop(barPay c false ∗ barPay c true) := by
  rw [Finset.sdiff_empty, duties_bar, show (Finset.univ : Finset Bool) = insert false {true} by decide, bigSep_insert (by decide),
    bigSep_singleton, payload_bar, payload_bar]
  rfl
theorem rest_cred {r : ℕ} (h : r < 15) : bigSep ((Rd X).duties (credCell c q) r \ ∅) (fun d => (Rd X).payload (credCell c q) r d)
    = credPay c q r := by
  rw [Finset.sdiff_empty, duties_cred X c q h, bigSep_singleton, payload_cred]
theorem rest_send {r : ℕ} (h : r < 14) : bigSep ((Rd X).duties (sendCell c q) r \ ∅) (fun d => (Rd X).payload (sendCell c q) r d)
    = sendPay X c q r := by
  rw [Finset.sdiff_empty, duties_send X c q h, bigSep_singleton, payload_send]
theorem rest_recv {r : ℕ} (h : r < 14) : bigSep ((Rd X).duties (recvCell c q) r \ ∅) (fun d => (Rd X).payload (recvCell c q) r d)
    = recvPay X c q r := by
  rw [Finset.sdiff_empty, duties_recv X c q h, bigSep_singleton, payload_recv]

end

/-! ## What a device owes, and the levels -/

abbrev Tallies : Type := CellTallies nD τ sig ℕ

/-- What device `c` still owes on stream `q`: the copies of hops `a..13` to the receive semaphore of the neighbour it sends to,
    and the credits `b..14` to the neighbour it receives from. -/
def due (c : Dev nD) (q : Fin 4) (a b : ℕ) : Tallies :=
  (∑ h ∈ Finset.Ico a 14, tallyAt (recvCell (toDev c q) q) h N) + ∑ h ∈ Finset.Ico b 15, tallyAt (credCell (fromDev c q) q) h 1

theorem sum_Ico_first {A : Type} [AddCommMonoid A] {a b : ℕ} (h : a < b) (f : ℕ → A) :
    ∑ i ∈ Finset.Ico a b, f i = f a + ∑ i ∈ Finset.Ico (a + 1) b, f i := by
  rw [show Finset.Ico a b = insert a (Finset.Ico (a + 1) b) by ext x; simp only [Finset.mem_Ico, Finset.mem_insert]; omega,
    Finset.sum_insert (by rw [Finset.mem_Ico]; omega)]

theorem due_recv (c : Dev nD) (q : Fin 4) {a : ℕ} (b : ℕ) (h : a < 14) :
    due c q a b = due c q (a + 1) b + tallyAt (recvCell (toDev c q) q) a N := by
  unfold due; rw [sum_Ico_first h]; ac_rfl
theorem due_cred (c : Dev nD) (q : Fin 4) (a : ℕ) {b : ℕ} (h : b < 15) :
    due c q a b = due c q a (b + 1) + tallyAt (credCell (fromDev c q) q) b 1 := by
  unfold due; rw [sum_Ico_first h]; ac_rfl
theorem due_done (c : Dev nD) (q : Fin 4) : due c q 14 15 = 0 := by simp [due]

/-- The four streams together. -/
def owe (c : Dev nD) (a b : Fin 4 → ℕ) : Tallies := ∑ q, due c q (a q) (b q)

theorem owe_change (c : Dev nD) (a b a' b' : Fin 4 → ℕ) (q : Fin 4) (T : Tallies) (ha : ∀ p, p ≠ q → a' p = a p)
    (hb : ∀ p, p ≠ q → b' p = b p) (h : due c q (a q) (b q) = due c q (a' q) (b' q) + T) : owe c a b = owe c a' b' + T := by
  unfold owe
  rw [← Finset.add_sum_erase _ _ (Finset.mem_univ q), ← Finset.add_sum_erase _ (fun q => due c q (a' q) (b' q)) (Finset.mem_univ q), h,
    Finset.sum_congr rfl (fun p hp => by rw [ha p (Finset.ne_of_mem_erase hp), hb p (Finset.ne_of_mem_erase hp)]
      : ∀ p ∈ Finset.univ.erase q, due c p (a' p) (b' p) = due c p (a p) (b p))]
  ac_rfl

theorem owe_done (c : Dev nD) : owe c (fun _ => 14) (fun _ => 15) = 0 := by
  unfold owe; rw [Finset.sum_congr rfl (fun q _ => due_done c q)]; exact Finset.sum_const_zero

/-- The rounds of a cell, and the level of a round: hop by hop, the credit before the copy. -/
def L (g : GSem nD τ sig) : Finset ℕ := if g.1.2 = .tc then Finset.range 16 else ∅
def lvOf : Role → ℕ → ℕ
  | .bar, _ => 1
  | .cred _, h => 2 + 2 * h
  | .recv _, h => 3 + 2 * h
  | _, _ => 0
def lv (g : GSem nD τ sig) (h : ℕ) : ℕ := lvOf (role g.2) h

theorem tally_pos {g g' : GSem nD τ sig} {i i' k : ℕ} (h : 0 < (tallyAt g i k : Tallies) g' i') : g' = g ∧ i' = i := by
  rw [tallyAt_apply] at h
  by_contra hne
  rw [if_neg hne] at h; exact absurd h (lt_irrefl 0)

theorem sum_pos_elim {I : Type} (s : Finset I) (f : I → Tallies) {g : GSem nD τ sig} {i : ℕ} (h : 0 < (∑ x ∈ s, f x) g i) :
    ∃ x ∈ s, 0 < f x g i := by
  by_contra hne
  have : ∀ x ∈ s, f x g i = 0 := fun x hx => Nat.eq_zero_of_not_pos fun hp => hne ⟨x, hx, hp⟩
  have e : (∑ x ∈ s, f x) g i = ∑ x ∈ s, f x g i := by rw [Finset.sum_apply, Finset.sum_apply']
  rw [e, Finset.sum_eq_zero this] at h; exact absurd h (lt_irrefl 0)

/-- An entry of what is owed is a later copy or a later credit of some stream. -/
theorem owe_pos {c : Dev nD} {a b : Fin 4 → ℕ} {g : GSem nD τ sig} {i : ℕ} (h : 0 < owe c a b g i) :
    ∃ q, (g = recvCell (toDev c q) q ∧ a q ≤ i ∧ i < 14) ∨ (g = credCell (fromDev c q) q ∧ b q ≤ i ∧ i < 15) := by
  obtain ⟨q, -, hq⟩ := sum_pos_elim _ _ h
  refine ⟨q, ?_⟩
  have e : (due c q (a q) (b q)) g i = (∑ h ∈ Finset.Ico (a q) 14, tallyAt (recvCell (toDev c q) q) h N : Tallies) g i
      + (∑ h ∈ Finset.Ico (b q) 15, tallyAt (credCell (fromDev c q) q) h 1 : Tallies) g i := rfl
  rw [e] at hq
  rcases Nat.add_pos_iff_pos_or_pos.mp hq with h1 | h1
  · obtain ⟨x, hx, h2⟩ := sum_pos_elim _ _ h1
    obtain ⟨rfl, rfl⟩ := tally_pos h2
    rw [Finset.mem_Ico] at hx
    exact .inl ⟨rfl, hx⟩
  · obtain ⟨x, hx, h2⟩ := sum_pos_elim _ _ h1
    obtain ⟨rfl, rfl⟩ := tally_pos h2
    rw [Finset.mem_Ico] at hx
    exact .inr ⟨rfl, hx⟩

/-- A wait whose level is at most `k` is allowed when everything owed lies above `k`. -/
theorem mayWait (c : Dev nD) (sm : SemLoc sig) (i k : ℕ) (a b : Fin 4 → ℕ) (hi : i < 16) (hk : lvOf (role sm) i ≤ k)
    (ha : ∀ q, k < 3 + 2 * a q) (hb : ∀ q, k < 2 + 2 * b q) :
    (levAts L lv : sProp (MM F)) ⊢ MayWait (c : Thread nD τ) sm i (owe c a b) :=
  MayOwe.of_cut (L := L) (lev := lv) k
    (fun p hp => by rw [Finset.mem_singleton.mp hp]; unfold L; rw [if_pos rfl]; exact Finset.mem_range.mpr hi)
    (fun g u hg => by
      obtain ⟨q, ⟨rfl, -, h⟩ | ⟨rfl, -, h⟩⟩ := owe_pos hg <;>
      · unfold L; rw [if_pos rfl]; exact Finset.mem_range.mpr (by omega))
    (fun p hp => by rw [Finset.mem_singleton.mp hp]; exact hk)
    (fun g u hg => by
      obtain ⟨q, ⟨rfl, h, -⟩ | ⟨rfl, h, -⟩⟩ := owe_pos hg
      · have := ha q; simp only [lv, role_recv, lvOf]; omega
      · have := hb q; simp only [lv, role_cred, lvOf]; omega)

end Cert.RingProof
-- ==== Proof.Steps.lean ====
/-
  The run of one stream's part of one hop, at a symbolic device, hop and stream: the start of a copy, the two waits that end it,
  and the credit given after it.
-/
module

public import proofs.«01_k».proof.Proof.Sched
public import Idealize.SL.BI.BigOpNat

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The cells -/

/-- A device's semaphores that the kernel itself allocates: credits, sends, receives. -/
def osem : Fin 3 × Fin 4 → SemLoc sig
  | (0, q) => .reg (credS q)
  | (1, q) => .dma (sendS q)
  | (2, q) => .dma (recvS q)

theorem osem_inj : Function.Injective osem := by decide
theorem osem_ne_bar : ∀ k, osem k ≠ .reg barS := by decide

def barEmb : Dev nD ↪ GSem nD τ sig := ⟨fun c => barCell c, fun _ _ h => congrArg (fun g : GSem nD τ sig => g.1.1) h⟩
def scEmb : Dev nD × (Fin 3 × Fin 4) ↪ GSem nD τ sig :=
  ⟨fun ck => ((ck.1 : Thread nD τ), osem ck.2), fun _ _ h =>
    Prod.ext (congrArg (fun g : GSem nD τ sig => g.1.1) h) (osem_inj (congrArg Prod.snd h))⟩
def barCells : Finset (GSem nD τ sig) := Finset.univ.map barEmb
def scCells : Finset (GSem nD τ sig) := Finset.univ.map scEmb

variable (X : Dev nD → Block F)

/-- What every device may consult: all the invariants, under one map of names, that every barrier is at its first round, and the
    levels. -/
def ctx (K : GSem nD τ sig → ℕ) : sProp (MM F) :=
  iprop((bigSep (barCells ∪ scCells) fun g => cellInv ER (Rd X) (K g) g) ∗ (bigSep barCells fun g => reached ER g 0) ∗ levAts L lv)

instance ctx_persistent (K : GSem nD τ sig → ℕ) : BI.Persistent (ctx X K) := by unfold ctx; infer_instance

variable (K : GSem nD τ sig → ℕ)

theorem ctx_inv {g : GSem nD τ sig} (hg : g ∈ barCells ∪ scCells) : ctx X K ⊢ cellInv ER (Rd X) (K g) g := by
  have e : (bigSep (barCells ∪ scCells) fun g => cellInv ER (Rd X) (K g) g) ⊢ cellInv ER (Rd X) (K g) g := bigSep_elim hg
  unfold ctx; iintro ⟨#H, -⟩; iapply e; iexact H
theorem sc_mem (c : Dev nD) (k : Fin 3 × Fin 4) : ((c : Thread nD τ), osem k) ∈ barCells ∪ scCells :=
  Finset.mem_union_right _ (Finset.mem_map_of_mem scEmb (Finset.mem_univ (c, k)))
theorem ctx_bar (c : Dev nD) : ctx X K ⊢ cellInv ER (Rd X) (K (barCell c)) (barCell c) :=
  ctx_inv X K (Finset.mem_union_left _ (Finset.mem_map_of_mem barEmb (Finset.mem_univ c)))
theorem ctx_cred (c : Dev nD) (q : Fin 4) : ctx X K ⊢ cellInv ER (Rd X) (K (credCell c q)) (credCell c q) :=
  ctx_inv X K (sc_mem c (0, q))
theorem ctx_send (c : Dev nD) (q : Fin 4) : ctx X K ⊢ cellInv ER (Rd X) (K (sendCell c q)) (sendCell c q) :=
  ctx_inv X K (sc_mem c (1, q))
theorem ctx_recv (c : Dev nD) (q : Fin 4) : ctx X K ⊢ cellInv ER (Rd X) (K (recvCell c q)) (recvCell c q) :=
  ctx_inv X K (sc_mem c (2, q))
theorem ctx_reached (c : Dev nD) : ctx X K ⊢ reached ER (barCell c) 0 := by
  have e : (bigSep barCells fun g => (reached ER g 0 : sProp (MM F))) ⊢ reached ER (barCell c) 0 :=
    bigSep_elim (Finset.mem_map_of_mem barEmb (Finset.mem_univ c))
  unfold ctx; iintro ⟨-, #H, -⟩; iapply e; iexact H
theorem ctx_lev : ctx X K ⊢ levAts L lv := by unfold ctx; iintro ⟨-, -, #H⟩; iexact H

/-! ## The state of a stream -/

section
variable (c : Dev nD) (q : Fin 4)

/-- The right to make the copies from hop `h` on, the credit to await the incoming ones, the credit to await the credits, and
    the right to give credits. -/
def rights (h : ℕ) : sProp (MM F) := bigSep (Finset.Ico h 14) fun i =>
  iprop(dutyTok ER (recvCell (toDev c q) q) i false ∗ dutyTok ER (sendCell c q) i false)
def awaitR (h : ℕ) : sProp (MM F) := bigSep (Finset.Ico h 14) fun i => cred (tallyAt (recvCell c q) i N)
def awaitC (h : ℕ) : sProp (MM F) := bigSep (Finset.Ico h 15) fun i => cred (tallyAt (credCell c q) i 1)
def giveT (h : ℕ) : sProp (MM F) := bigSep (Finset.Ico h 15) fun i => dutyTok ER (credCell (fromDev c q) q) i false

/-- Before hop `h`; after its copy is started; after its copies are complete. -/
def ready (h : ℕ) : sProp (MM F) :=
  iprop(atPos ER (credCell c q) h ∅ 0 ∗ atPos ER (recvCell c q) h ∅ 0 ∗ atPos ER (sendCell c q) h ∅ 0
    ∗ reached ER (sendCell c q) h ∗ rights (F := F) c q h ∗ awaitR (F := F) c q h ∗ awaitC (F := F) c q h ∗ giveT (F := F) c q (h + 1))
def sent (h : ℕ) : sProp (MM F) :=
  iprop(atPos ER (credCell c q) (h + 1) ∅ 0 ∗ atPos ER (recvCell c q) h ∅ 0 ∗ atPos ER (sendCell c q) h ∅ 0
    ∗ cred (tallyAt (sendCell c q) h N) ∗ rights (F := F) c q (h + 1) ∗ awaitR (F := F) c q h ∗ awaitC (F := F) c q (h + 1)
    ∗ giveT (F := F) c q (h + 1))
def waited (h : ℕ) : sProp (MM F) :=
  iprop(atPos ER (credCell c q) (h + 1) ∅ 0 ∗ atPos ER (recvCell c q) (h + 1) ∅ 0 ∗ atPos ER (sendCell c q) (h + 1) ∅ 0
    ∗ reached ER (sendCell c q) (h + 1) ∗ rights (F := F) c q (h + 1) ∗ awaitR (F := F) c q (h + 1)
    ∗ awaitC (F := F) c q (h + 1) ∗ giveT (F := F) c q (h + 1))

end

/-- Owing `O`, whatever waits are recorded. -/
def owesE (c : Dev nD) (O : Tallies) : sProp (MM F) := iprop(∃ W, owes (c : Thread nD τ) O W)

abbrev 𝒱₀ : Variants := Variants.none

/-- The weakest precondition of a program of device `c`. -/
abbrev Wp (c : Dev nD) (k : Code F) (Q : PUnit → sProp (MM F)) : sProp (MM F) :=
  wp frame (wpE (defs₀ (F := F)) 𝒱₀ (c : Thread nD τ) none) Set.univ k Q

variable (c : Dev nD) (q : Fin 4) (h : ℕ) (Q : PUnit → sProp (MM F)) (k : Code F)

/-- Waiting for a credit. -/
theorem waitCred (hh : h < 15) (a b : Fin 4 → ℕ) (ha : ∀ p, h ≤ a p) (hb : ∀ p, h + 1 ≤ b p) :
    iprop(ctx X K ∗ atPos ER (credCell c q) h ∅ 0 ∗ awaitC (F := F) c q h ∗ owesE c (owe c a b))
      ⊢ iprop((atPos ER (credCell c q) (h + 1) ∅ 0 ∗ awaitC (F := F) c q (h + 1) ∗ reached ER (credCell c q) (h + 1) ∗ credPay (F := F) c q h
            ∗ owesE c (owe c a b) -∗ Wp c k Q)
        -∗ Wp c (.op (.semWait (credS q) (1#32).toInt) fun _ => k) Q) := by
  unfold awaitC owesE
  rw [bigSep_Ico_succ_bot hh]
  iintro ⟨#HI, Hat, ⟨Hc, Hcs⟩, ⟨%W, HO⟩⟩ Hk
  iapply (Rounds.wp_wait_rest_token 𝒱₀ ER (Rd X) (c : Thread nD τ) none (κ := K (credCell c q))
      (wpE_semWait_eq 𝒱₀ (c : Thread nD τ) none Set.univ) (Set.mem_univ _) h (O := owe c a b) (W := W) (R := h) (m := 0) (T := ∅)
      ((Nat.zero_add 1).trans (expect_cred X c q hh).symm)) $$ [Hc HO Hat]
  · isplitr; · iapply (ctx_cred X K c q); iexact HI
    isplitl [Hc]; · iexact Hc
    isplitl [HO]; · iexact HO
    isplitr
    · iapply (mayWait (F := F) c (.reg (credS q)) h (2 + 2 * h) a b (by omega) (by simp [lvOf])
        (fun p => by have := ha p; omega) (fun p => by have := hb p; omega))
      iapply (ctx_lev X K); iexact HI
    iexact Hat
  iintro ⟨HO, Hat, #Hr, Hpay⟩
  ihave Hp := (Entails.of_eq (rest_cred X c q hh)) $$ Hpay
  iapply Hk
  isplitl [Hat]; · iexact Hat
  isplitl [Hcs]; · iexact Hcs
  isplitr; · iexact Hr
  isplitl [Hp]; · iexact Hp
  iexists _; iexact HO

/-- The start of a copy. -/
theorem issue_run (hh : h < 14) (o : Fin 2 → ℕ) (ho : ∃ j q, o = rowOff j q) (eo : o = rowOff (back c q h) q)
    (dst : Memref sig .tc .vmem S128x2048 .bf16) (hd : dst.view.WordExact) (hN : dst.view.dmaCredit = N)
    (hopen : credPay (F := F) c q h ⊢ iprop((∃ fd, dst.view.loc (toDev c q : Thread nD τ) ↦[dst.view.set]{fullShare} fd)
      ∗ reached ER (recvCell (toDev c q) q) h))
    (hland : ∀ fd, iprop((dst.view.loc (toDev c q : Thread nD τ) ↦[dst.view.set]{fullShare}
        (dst.view.write (Elt F) fd ((pc (back c q h) q).view.read (Elt F) (acc X q h c)) Finset.univ))
      ∗ reached ER (credCell c q) (h + 1)) ⊢ recvPay X (toDev c q) q h)
    (a b a' : Fin 4 → ℕ) (ha : ∀ p, h ≤ a p) (hb : ∀ p, h + 1 ≤ b p) (haq : a q = h) (haq' : a' q = h + 1)
    (ha' : ∀ p, p ≠ q → a' p = a p) :
    iprop(ctx X K ∗ ready (F := F) c q h ∗ pieceAt c (back c q h) q (acc X q h c) ∗ owesE c (owe c a b))
      ⊢ iprop((sent (F := F) c q h ∗ owesE c (owe c a' b) -∗ Wp c k Q) -∗ Wp c (issueTo q o ho dst hd (toDev c q) k) Q) := by
  subst eo
  unfold ready issueTo rights
  rw [bigSep_Ico_succ_bot hh]
  iintro ⟨#HI, ⟨HaC, HaR, HaS, #HrS, ⟨⟨HtR, HtS⟩, Hri⟩, HwR, HwC, Hg⟩, Hp, HO⟩ Hk
  iapply (waitCred X K c q h Q _ (by omega) a b ha hb) $$ [HaC HwC HO]
  · isplitr; · iexact HI
    isplitl [HaC]; · iexact HaC
    isplitl [HwC]; · iexact HwC
    iexact HO
  iintro ⟨HaC, HwC, #HrC, Hpay, HO⟩
  ihave Hpay := hopen $$ Hpay
  icases Hpay with ⟨⟨%fd, Hd⟩, #HrV⟩
  unfold owesE
  icases HO with ⟨%W, HO⟩
  unfold pieceAt
  iapply (Rounds.wp_send_pointsTo_with 𝒱₀ ER (Rd X) (c : Thread nD τ) none (c' := (toDev c q : Thread nD τ)) (src := pc (back c q h) q) (dst := dst)
      (sS := .dma (sendS q)) (sem := .dma (recvS q)) (q := fullShare) (fs := acc X q h c) (κ₁ := K (sendCell c q)) (κ₂ := K (recvCell (toDev c q) q))
      (r₁ := h) (r₂ := h) (d₁ := false) (d₂ := false) (fd := fd) (F := reached ER (credCell c q) (h + 1))
      (by rw [duties_send X c q hh]; exact Finset.mem_singleton_self _) (by rw [duties_recv X (toDev c q) q hh]; exact Finset.mem_singleton_self _)
      h h N hN (amount_send X c q h false) (amount_recv X (toDev c q) q h false) (owe c a' b)
      (owe_change c a b a' b q _ ha' (fun _ _ => rfl) (by rw [haq, haq']; exact due_recv c q (b q) hh)) (W := W)
      (by rw [payload_send]; exact BI.Entails.refl _)
      (by rw [payload_recv]; exact hland fd)) $$ [Hp Hd HO HtS HtR]
  · isplitr; · iapply (ctx_send X K c q); iexact HI
    isplitr; · iapply (ctx_recv X K (toDev c q) q); iexact HI
    isplitl [Hp]; · iexact Hp
    isplitl [Hd]
    · isplitl [Hd]; · iexact Hd
      iexact HrC
    isplitl [HO]; · iexact HO
    isplitl [HtS]; · iexact HtS
    isplitr; · iexact HrS
    isplitl [HtR]; · iexact HtR
    iexact HrV
  iintro ⟨HcS, HO⟩
  iapply Hk
  unfold sent rights
  isplitr [HO]
  · isplitl [HaC]; · iexact HaC
    isplitl [HaR]; · iexact HaR
    isplitl [HaS]; · iexact HaS
    isplitl [HcS]; · iexact HcS
    isplitl [Hri]; · iexact Hri
    isplitl [HwR]; · iexact HwR
    isplitl [HwC]; · iexact HwC
    iexact Hg
  iexists W; iexact HO

/-- The two waits that end a hop's copies. -/
theorem waits_run (hh : h < 14) (w₁ w₂ : TpuEff nD τ sig (Elt F) Λ₀ .tc PUnit)
    (hw₁ : ∀ R : PUnit → sProp (MM F), wpE (defs₀ (F := F)) 𝒱₀ (c : Thread nD τ) none Set.univ w₁ R
      = waitSpec (c : Thread nD τ) Set.univ (.dma (sendS q)) N R)
    (hw₂ : ∀ R : PUnit → sProp (MM F), wpE (defs₀ (F := F)) 𝒱₀ (c : Thread nD τ) none Set.univ w₂ R
      = waitSpec (c : Thread nD τ) Set.univ (.dma (recvS q)) N R)
    (a b : Fin 4 → ℕ) (ha : ∀ p, h + 1 ≤ a p) (hb : ∀ p, h + 1 ≤ b p) :
    iprop(ctx X K ∗ sent (F := F) c q h ∗ owesE c (owe c a b))
      ⊢ iprop((waited (F := F) c q h ∗ reached ER (recvCell c q) (h + 1) ∗ sendPay X c q h ∗ recvPay X c q h ∗ owesE c (owe c a b) -∗ Wp c k Q)
        -∗ Wp c (.op w₁ fun _ => .op w₂ fun _ => k) Q) := by
  unfold sent owesE awaitR
  rw [bigSep_Ico_succ_bot hh]
  iintro ⟨#HI, ⟨HaC, HaR, HaS, HcS, Hri, ⟨HcR, HwR⟩, HwC, Hg⟩, ⟨%W, HO⟩⟩ Hk
  iapply (Rounds.wp_wait_rest_token 𝒱₀ ER (Rd X) (c : Thread nD τ) none (κ := K (sendCell c q))
      hw₁ (Set.mem_univ _) h (O := owe c a b) (W := W) (R := h) (m := 0) (T := ∅)
      ((Nat.zero_add _).trans (expect_send X c q hh).symm)) $$ [HcS HO HaS]
  · isplitr; · iapply (ctx_send X K c q); iexact HI
    isplitl [HcS]; · iexact HcS
    isplitl [HO]; · iexact HO
    isplitr
    · iapply (mayWait (F := F) c (.dma (sendS q)) h 0 a b (by omega) (by simp [lvOf])
        (fun p => by omega) (fun p => by omega))
      iapply (ctx_lev X K); iexact HI
    iexact HaS
  iintro ⟨HO, HaS, #HrS, Hpay⟩
  ihave HpS := (Entails.of_eq (rest_send X c q hh)) $$ Hpay
  iapply (Rounds.wp_wait_rest_token 𝒱₀ ER (Rd X) (c : Thread nD τ) none (κ := K (recvCell c q))
      hw₂ (Set.mem_univ _) h (O := owe c a b) (R := h) (m := 0) (T := ∅)
      ((Nat.zero_add _).trans (expect_recv X c q hh).symm)) $$ [HcR HO HaR]
  · isplitr; · iapply (ctx_recv X K c q); iexact HI
    isplitl [HcR]; · iexact HcR
    isplitl [HO]; · iexact HO
    isplitr
    · iapply (mayWait (F := F) c (.dma (recvS q)) h (3 + 2 * h) a b (by omega) (by simp [lvOf])
        (fun p => by have := ha p; omega) (fun p => by have := hb p; omega))
      iapply (ctx_lev X K); iexact HI
    iexact HaR
  iintro ⟨HO, HaR, #HrR, Hpay⟩
  ihave HpR := (Entails.of_eq (rest_recv X c q hh)) $$ Hpay
  iapply Hk
  unfold waited awaitR
  isplitl [HaC HaR HaS Hri HwR HwC Hg]
  · isplitl [HaC]; · iexact HaC
    isplitl [HaR]; · iexact HaR
    isplitl [HaS]; · iexact HaS
    isplitr; · iexact HrS
    isplitl [Hri]; · iexact Hri
    isplitl [HwR]; · iexact HwR
    isplitl [HwC]; · iexact HwC
    iexact Hg
  isplitr; · iexact HrR
  isplitl [HpS]; · iexact HpS
  isplitl [HpR]; · iexact HpR
  iexists _; iexact HO

/-- Giving a credit. -/
theorem give_run (hh : h < 15) (a b b' : Fin 4 → ℕ) (hbq : b q = h) (hbq' : b' q = h + 1)
    (hb' : ∀ p, p ≠ q → b' p = b p) :
    iprop(ctx X K ∗ giveT (F := F) c q h ∗ reached ER (credCell (fromDev c q) q) h ∗ credPay (F := F) (fromDev c q) q h ∗ owesE c (owe c a b))
      ⊢ iprop((giveT (F := F) c q (h + 1) ∗ owesE c (owe c a b') -∗ Wp c k Q)
        -∗ Wp c (.op (.semSignal (Dev.tc (fromDev c q)) (credS q) (1#32).toInt) fun _ => k) Q) := by
  unfold giveT owesE
  rw [bigSep_Ico_succ_bot hh]
  iintro ⟨#HI, ⟨Ht, Hg⟩, #Hr, Hp, ⟨%W, HO⟩⟩ Hk
  iapply (Rounds.wp_signal 𝒱₀ ER (Rd X) (c : Thread nD τ) none (dst := (fromDev c q : Thread nD τ)) (sem := credS q) (r := h) (d := false)
      (κ := K (credCell (fromDev c q) q))
      (by rw [duties_cred X (fromDev c q) q hh]; exact Finset.mem_singleton_self _) (amount_cred X (fromDev c q) q h false) h (owe c a b')
      (owe_change c a b a b' q _ (fun _ _ => rfl) hb' (by rw [hbq, hbq']; exact due_cred c q (a q) hh)))
    $$ [HO Ht Hp]
  · isplitr; · iapply (ctx_cred X K (fromDev c q) q); iexact HI
    isplitl [HO]; · iexact HO
    isplitl [Ht]; · iexact Ht
    isplitl [Hp]
    · rw [payload_cred]; iexact Hp
    · iexact Hr
  iintro HO
  iapply Hk
  isplitl [Hg]; · iexact Hg
  iexists W; iexact HO

end Cert.RingProof
-- ==== Proof.Hops.lean ====
/-
  The run of the hops: one stream's start and end of a hop of either kind, the four streams of a hop, the seven hops of each half.
-/
module

public import proofs.«01_k».proof.Proof.Steps
public import Idealize.ShloMosaic.Lib.Pipeline.Value

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## What the moves do to contents -/

/-- Rows written with what the same rows of `W` read as hold `W`. -/
theorem piece_written (c : Dev nD) (j : Fin 8) (q : Fin 4) (f W : Block F) :
    ((pc j q).view.loc (c : Thread nD τ) ↦[(pc j q).view.set]{fullShare}
      ((pc j q).view.write (Elt F) f ((pc j q).view.read (Elt F) W) Finset.univ)) ⊢ (pieceAt c j q W : sProp (MM F)) := by
  unfold pieceAt
  refine Entails.of_eq (pointsTo_congr fun i hi => ?_)
  rw [View.write_read_eq_piecewise]
  exact Finset.piecewise_eq_of_mem _ _ _ hi

/-- The landing buffer loaded and reshaped is what it reads as. -/
theorem land_cast (q : Fin 4) (f : cc0_scratch0.ty.Contents (Elt F)) :
    shapeCast S128x2048 ((landM.access (landRect q)).read (Elt F) f) shapeCasts_S1x128x2048_S128x2048
      = (land q).view.read (Elt F) f := rfl

theorem land_access_set (q : Fin 4) : (landM.access (landRect q)).set = (land q).view.set :=
  (View.set_reshape _ _).symm

theorem sum_read (j : Fin 8) (q : Fin 4) (A B : Block F) :
    (addf ((pc j q).view.read (Elt F) A) ((pc j q).view.read (Elt F) B) : FVec F S128x2048 .bf16)
      = (pc j q).view.read (Elt F) (addB A B) := rfl

theorem add_eq (old : Vec F S128x2048 .bf16) (new : Vec F S1x128x2048 .bf16) :
    k0_pay2 old new = addf old (shapeCast S128x2048 new shapeCasts_S1x128x2048_S128x2048) := by
  unfold k0_pay2; exact congrArg (fun x => addf x _) (shapeCast_self old _)

/-! ## What a stream holds of the result block -/

variable (X : Dev nD → Block F) (K : GSem nD τ sig → ℕ) (c : Dev nD) (q : Fin 4) (h : ℕ) (Q : PUnit → sProp (MM F)) (k : Code F)

/-- Beside the rows the next copy sends: in the reduce-scatter the rows already sent and those not yet added to; in the all-gather
    the complete rows, the rows still to arrive whose credit is not given, and the landing buffer. -/
def other : sProp (MM F) :=
  if h < 7 then
    iprop((bigSep (Finset.Ico 0 h) fun i => pieceAny c (back c q i) q) ∗ bigSep (Finset.Ico (h + 1) 8) fun i => pieceAt c (back c q i) q (X c))
  else
    iprop((bigSep (Finset.Ico 7 h) fun i => pieceAt c (back c q i) q (acc X q i c))
      ∗ (bigSep (Finset.Ico (h + 2) 15) fun i => pieceAny c (back c q i) q) ∗ landAny c q)

def before : sProp (MM F) := iprop(ready (F := F) c q h ∗ pieceAt c (back c q h) q (acc X q h c) ∗ other X c q h)
def during : sProp (MM F) := iprop(sent (F := F) c q h ∗ other X c q h)

/-! ## One stream -/

theorem start_reduce (hh : h < 7) (o : Fin 2 → ℕ) (ho : ∃ j q, o = rowOff j q) (eo : o = rowOff (back c q h) q)
    (hd : (land q).view.WordExact) (a b a' : Fin 4 → ℕ) (ha : ∀ p, h ≤ a p) (hb : ∀ p, h + 1 ≤ b p) (haq : a q = h)
    (haq' : a' q = h + 1) (ha' : ∀ p, p ≠ q → a' p = a p) :
    iprop(ctx X K ∗ before X c q h ∗ owesE c (owe c a b))
      ⊢ iprop((during X c q h ∗ owesE c (owe c a' b) -∗ Wp c k Q) -∗ Wp c (issueTo q o ho (land q) hd (toDev c q) k) Q) := by
  unfold before during
  iintro ⟨#HI, ⟨Hr, Hp, Ho⟩, HO⟩ Hk
  iapply (issue_run X K c q h Q k (by omega) o ho eo (land q) hd (land_credit q)
    (by
      unfold credPay landAny landPts; rw [if_pos hh])
    (fun fd => by
      unfold recvPay; rw [if_pos hh, back_succ, fromDev_toDev]; unfold landAt landPts
      iintro ⟨H, Hr⟩
      isplitl [H]
      · iexists _
        isplitr
        rotate_left
        · iexact H
        · ipureintro; exact View.read_write_univ _ _
      iexact Hr)
    a b a' ha hb haq haq' ha') $$ [Hr Hp HO]
  · isplitr; · iexact HI
    isplitl [Hr]; · iexact Hr
    isplitl [Hp]; · iexact Hp
    iexact HO
  iintro ⟨Hs, HO⟩
  iapply Hk
  isplitr [HO]
  · isplitl [Hs]; · iexact Hs
    iexact Ho
  iexact HO

theorem start_gather (h7 : 7 ≤ h) (hh : h < 14) (o : Fin 2 → ℕ) (ho : ∃ j q, o = rowOff j q) (eo : o = rowOff (back c q h) q)
    (hd : (piece o ho).view.WordExact) (a b a' : Fin 4 → ℕ) (ha : ∀ p, h ≤ a p) (hb : ∀ p, h + 1 ≤ b p) (haq : a q = h)
    (haq' : a' q = h + 1) (ha' : ∀ p, p ≠ q → a' p = a p) :
    iprop(ctx X K ∗ before X c q h ∗ owesE c (owe c a b))
      ⊢ iprop((during X c q h ∗ owesE c (owe c a' b) -∗ Wp c k Q) -∗ Wp c (issueTo q o ho (piece o ho) hd (toDev c q) k) Q) := by
  subst eo
  unfold before during
  iintro ⟨#HI, ⟨Hr, Hp, Ho⟩, HO⟩ Hk
  iapply (issue_run X K c q h Q k hh _ ho rfl (pc (back c q h) q) hd (pc_credit _ q)
    (by
      unfold credPay pieceAny pieceAt; rw [if_neg (by omega), if_pos hh]; exact BI.Entails.refl _)
    (fun fd => by
      unfold recvPay; rw [if_neg (by omega), back_succ, fromDev_toDev]
      exact sep_mono_left (piece_written (toDev c q) (back c q h) q fd (acc X q h c)))
    a b a' ha hb haq haq' ha') $$ [Hr Hp HO]
  · isplitr; · iexact HI
    isplitl [Hr]; · iexact Hr
    isplitl [Hp]; · iexact Hp
    iexact HO
  iintro ⟨Hs, HO⟩
  iapply Hk
  isplitr [HO]
  · isplitl [Hs]; · iexact Hs
    iexact Ho
  iexact HO

/-- The addition of a reduce-scatter hop. -/
theorem add_run (hh : h < 7) (o' : Fin 2 → ℕ) (ho' : ∃ j q, o' = rowOff j q) (eo' : o' = rowOff (back c q (h + 1)) q) :
    iprop(pieceAt c (back c q (h + 1)) q (X c) ∗ landAt c (back c q (h + 1)) q (acc X q h (fromDev c q)))
      ⊢ iprop((pieceAt c (back c q (h + 1)) q (acc X q (h + 1) c) ∗ landAny c q -∗ Wp c k Q)
        -∗ Wp c (.op (.load outM (rect o' ho').toLoadRect (View.loadsAt_vmem h_S128x2048)) fun (old : Vec F S128x2048 .bf16) =>
          .op (.load landM (landRect q).toLoadRect (View.loadsAt_vmem h_S1x128x2048)) fun (new : Vec F S1x128x2048 .bf16) =>
          .op (.load outM (rect o' ho').toLoadRect (View.loadsAt_vmem h_S128x2048)) fun (_ : Vec F S128x2048 .bf16) =>
          .op (.store outM (rect o' ho') (k0_pay2 old new) Finset.univ
            (View.stores_vmem h_S128x2048 (wholeOut.storeExact_slice rfl _ (rect_packed o' ho')) (fun _ => rfl)) (.inl rfl)) fun _ => k) Q) := by
  subst eo'
  unfold landAt landAny landPts
  iintro ⟨Hp, ⟨%f, %hf, Hl⟩⟩ Hk
  iapply (wp_load_rect 𝒱₀ (c : Thread nD τ) none Set.univ (m := outM) (r := rect (rowOff (back c q (h + 1)) q) ho')
    (S := (pc (back c q (h + 1)) q).view.set) (q := fullShare) (f := X c) (Finset.Subset.refl _)) $$ [Hp]
  · unfold pieceAt; iexact Hp
  iintro Hp
  iapply (wp_load_rect 𝒱₀ (c : Thread nD τ) none Set.univ (m := landM) (r := landRect q)
    (S := (land q).view.set) (q := fullShare) (f := f) (Finset.Subset.trans (Finset.Subset.refl _) (land_access_set q).subset)) $$ [Hl]
  · iexact Hl
  iintro Hl
  iapply (wp_load_rect 𝒱₀ (c : Thread nD τ) none Set.univ (m := outM) (r := rect (rowOff (back c q (h + 1)) q) ho')
    (S := (pc (back c q (h + 1)) q).view.set) (q := fullShare) (f := X c) (Finset.Subset.refl _)) $$ [Hp]
  · iexact Hp
  iintro Hp
  iapply (wp_store 𝒱₀ (c : Thread nD τ) none Set.univ (m := outM) (r := rect (rowOff (back c q (h + 1)) q) ho')
    (S := (pc (back c q (h + 1)) q).view.set) (f := X c) (Finset.Subset.refl _)) $$ [Hp]
  · iexact Hp
  iintro Hp
  iapply Hk
  isplitl [Hp]
  · rw [acc_add X q hh c]
    iapply (piece_written c (back c q (h + 1)) q (X c) (addB (X c) (acc X q h (fromDev c q))))
    rw [← sum_read, ← hf, ← land_cast q f]
    rw [show (addf ((pc (back c q (h + 1)) q).view.read (Elt F) (X c))
          (shapeCast S128x2048 ((landM.access (landRect q)).read (Elt F) f) shapeCasts_S1x128x2048_S128x2048) : FVec F S128x2048 .bf16)
        = k0_pay2 ((pc (back c q (h + 1)) q).view.read (Elt F) (X c)) ((landM.access (landRect q)).read (Elt F) f) from
      (add_eq _ _).symm]
    iexact Hp
  · iexists f; iexact Hl

/-- What `other` becomes from one hop to the next, with what the hop brings and what its credit takes away. -/
theorem other_reduce (hh : h < 6) :
    iprop(other X c q h ∗ pieceAt c (back c q h) q (acc X q h c))
      ⊢ iprop(other X c q (h + 1) ∗ pieceAt c (back c q (h + 1)) q (X c)) := by
  unfold other
  rw [if_pos (by omega), if_pos (by omega), bigSep_Ico_succ_bot (show h + 1 < 8 by omega), bigSep_Ico_succ_top (Nat.zero_le h)]
  iintro ⟨⟨Hd, ⟨H1, Ht⟩⟩, Hp⟩
  isplitr [H1]
  · isplitr [Ht]
    · isplitl [Hp]
      · unfold pieceAny; iexists _; iexact Hp
      iexact Hd
    iexact Ht
  iexact H1

theorem shift8 (A : ℕ → sProp (MM F)) (e : ∀ i, A (i + 8) = A i) : (bigSep (Finset.Ico 1 7) A) = bigSep (Finset.Ico 9 15) A := by
  rw [show Finset.Ico 9 15 = (Finset.Ico 1 7).map ⟨fun i => i + 8, fun _ _ h => Nat.add_right_cancel h⟩ by decide, bigSep_map]
  exact bigSep_congr fun i _ => (e i).symm

theorem other_turn :
    iprop(other X c q 6 ∗ pieceAt c (back c q 6) q (acc X q 6 c))
      ⊢ iprop((landAny c q -∗ other X c q 7) ∗ pieceAny c (back c q 8) q ∗ pieceAt c (back c q 7) q (X c)) := by
  unfold other
  rw [if_pos (by omega), if_neg (by omega), Finset.Ico_self, bigSep_empty, show 7 + 2 = 9 from rfl,
    ← shift8 (fun i => pieceAny c (back c q i) q) (fun i => by rw [back_add8]), bigSep_Ico_one,
    show (8 : ℕ) = 0 + 8 from rfl, back_add8]
  have e : iprop((bigSep (Finset.Ico 0 6) fun i => pieceAny (F := F) c (back c q i) q) ∗ pieceAny c (back c q 6) q)
      ⊢ iprop((bigSep (Finset.Ico 1 7) fun i => pieceAny (F := F) c (back c q i) q) ∗ pieceAny c (back c q 0) q) := by
    rw [bigSep_Ico_succ_bot (show 0 < 6 by omega), bigSep_Ico_succ_top (show 1 ≤ 6 by omega)]
    iintro ⟨⟨H0, H1⟩, H6⟩
    isplitr [H0]
    · isplitl [H6] <;> iassumption
    · iexact H0
  iintro ⟨⟨Hd, H1⟩, Hp⟩
  ihave Hd := e $$ [Hd Hp]
  · isplitl [Hd]; · iexact Hd
    unfold pieceAny; iexists _; iexact Hp
  icases Hd with ⟨Hd, H0⟩
  isplitr [H0 H1]
  · iintro Hl
    isplitr; · iempintro
    isplitl [Hd] <;> iassumption
  isplitl [H0] <;> iassumption

theorem other_gather (h7 : 7 ≤ h) (hh : h < 14) :
    iprop(other X c q h ∗ pieceAt c (back c q h) q (acc X q h c))
      ⊢ iprop(other X c q (h + 1) ∗ if h + 1 < 14 then pieceAny c (back c q (h + 2)) q else iprop(emp)) := by
  unfold other
  rw [if_neg (by omega), if_neg (by omega), bigSep_Ico_succ_top h7]
  by_cases h13 : h + 1 < 14
  · rw [if_pos h13, bigSep_Ico_succ_bot (show h + 2 < 15 by omega)]
    iintro ⟨⟨Hd, ⟨H1, Hf⟩, Hl⟩, Hp⟩
    isplitr [H1]
    · isplitl [Hd Hp]
      · isplitl [Hp] <;> iassumption
      isplitl [Hf] <;> iassumption
    iexact H1
  · rw [if_neg h13, Finset.Ico_eq_empty (show ¬ h + 2 < 15 by omega), Finset.Ico_eq_empty (show ¬ h + 1 + 2 < 15 by omega)]
    iintro ⟨⟨Hd, Hf, Hl⟩, Hp⟩
    isplitr []
    · isplitl [Hd Hp]
      · isplitl [Hp] <;> iassumption
      isplitl [Hf] <;> iassumption
    iempintro

/-- From the state after the two waits to the one before the next hop, the credit being given. -/
theorem give_next (hh : h < 14) (a b b' : Fin 4 → ℕ) (hbq : b q = h + 1) (hbq' : b' q = h + 2) (hb' : ∀ p, p ≠ q → b' p = b p) :
    iprop(ctx X K ∗ waited (F := F) c q h ∗ reached ER (credCell (fromDev c q) q) (h + 1)
        ∗ credPay (F := F) (fromDev c q) q (h + 1) ∗ owesE c (owe c a b))
      ⊢ iprop((ready (F := F) c q (h + 1) ∗ owesE c (owe c a b') -∗ Wp c k Q)
        -∗ Wp c (.op (.semSignal (Dev.tc (fromDev c q)) (credS q) (1#32).toInt) fun _ => k) Q) := by
  unfold waited ready
  iintro ⟨#HI, ⟨HaC, HaR, HaS, #HrS, Hri, HwR, HwC, Hg⟩, #Hr, Hp, HO⟩ Hk
  iapply (give_run X K c q (h + 1) Q k (by omega) a b b' hbq hbq' hb') $$ [Hg Hp HO]
  · isplitr; · iexact HI
    isplitl [Hg]; · iexact Hg
    isplitr; · iexact Hr
    isplitl [Hp]; · iexact Hp
    iexact HO
  iintro ⟨Hg, HO⟩
  iapply Hk
  isplitr [HO]
  · isplitl [HaC]; · iexact HaC
    isplitl [HaR]; · iexact HaR
    isplitl [HaS]; · iexact HaS
    isplitr; · iexact HrS
    isplitl [Hri]; · iexact Hri
    isplitl [HwR]; · iexact HwR
    isplitl [HwC]; · iexact HwC
    iexact Hg
  iexact HO

/-- What the credit given after hop `h` carries, made by the giver. -/
theorem credPay_land (hh : h < 7) :
    iprop(landAny c q ∗ reached ER (recvCell c q) h) ⊢ (credPay (F := F) (fromDev c q) q h) := by
  unfold credPay; rw [if_pos hh, toDev_fromDev]
theorem credPay_piece (h7 : 7 ≤ h) (hh : h < 14) :
    iprop(pieceAny c (back c q (h + 1)) q ∗ reached ER (recvCell c q) h) ⊢ (credPay (F := F) (fromDev c q) q h) := by
  unfold credPay; rw [if_neg (by omega), if_pos hh, toDev_fromDev, back_from]

theorem end_reduce (hh : h < 7) (o : Fin 2 → ℕ) (ho : ∃ j q, o = rowOff j q)
    (o' : Fin 2 → ℕ) (ho' : ∃ j q, o' = rowOff j q) (eo' : o' = rowOff (back c q (h + 1)) q)
    (a b b' : Fin 4 → ℕ) (ha : ∀ p, h + 1 ≤ a p) (hb : ∀ p, h + 1 ≤ b p) (hbq : b q = h + 1)
    (hbq' : b' q = h + 2) (hb' : ∀ p, p ≠ q → b' p = b p) :
    iprop(ctx X K ∗ during X c q h ∗ owesE c (owe c a b))
      ⊢ iprop((before X c q (h + 1) ∗ owesE c (owe c a b') -∗ Wp c k Q) -∗ Wp c (reduceAt q o ho o' ho' (fromDev c q) k) Q) := by
  unfold during before reduceAt
  iintro ⟨#HI, ⟨Hs, Ho⟩, HO⟩ Hk
  iapply (waits_run X K c q h Q _ (by omega) _ _
    (wpE_waitDma2_eq (src := land q) (dst := piece o ho) (hsrc := (wholeLand.wordExact_slice rfl _ (land_words q)).reshape _ _)
      (hdst := wholeOut.wordExact_slice rfl _ (rect_words o ho)) 𝒱₀ (c : Thread nD τ) none Set.univ)
    (wpE_waitDma2_eq (src := piece o ho) (dst := land q) (hsrc := wholeOut.wordExact_slice rfl _ (rect_words o ho))
      (hdst := (wholeLand.wordExact_slice rfl _ (land_words q)).reshape _ _) 𝒱₀ (c : Thread nD τ) none Set.univ) a b ha hb) $$ [Hs HO]
  · isplitr; · iexact HI
    isplitl [Hs] <;> iassumption
  unfold sendPay recvPay
  rw [if_pos hh]
  iintro ⟨Hw, #HrV, Hp, ⟨Hl, #HrC⟩, HO⟩
  by_cases h6 : h < 6
  · ihave Ho := (other_reduce X c q h h6) $$ [Ho Hp]
    · isplitl [Ho] <;> iassumption
    icases Ho with ⟨Ho, H1⟩
    iapply (add_run X c q h Q _ hh o' ho' eo') $$ [H1 Hl]
    · isplitl [H1] <;> iassumption
    iintro ⟨H1, Hl⟩
    iapply (give_next X K c q h Q k (by omega) a b b' hbq hbq' hb') $$ [Hw Hl HO]
    · isplitr; · iexact HI
      isplitl [Hw]; · iexact Hw
      isplitr; · iexact HrC
      isplitl [Hl]
      · iapply (credPay_land (F := F) c q (h + 1) (by omega))
        isplitl [Hl]; · iexact Hl
        iexact HrV
      iexact HO
    iintro ⟨Hr, HO⟩
    iapply Hk
    isplitr [HO]
    · isplitl [Hr]; · iexact Hr
      isplitl [H1] <;> iassumption
    iexact HO
  · obtain rfl : h = 6 := by omega
    ihave Ho := (other_turn X c q) $$ [Ho Hp]
    · isplitl [Ho] <;> iassumption
    icases Ho with ⟨Ho, H0, H1⟩
    iapply (add_run X c q 6 Q _ hh o' ho' eo') $$ [H1 Hl]
    · isplitl [H1] <;> iassumption
    iintro ⟨H1, Hl⟩
    iapply (give_next X K c q 6 Q k (by omega) a b b' hbq hbq' hb') $$ [Hw H0 HO]
    · isplitr; · iexact HI
      isplitl [Hw]; · iexact Hw
      isplitr; · iexact HrC
      isplitl [H0]
      · iapply (credPay_piece (F := F) c q 7 (by omega) (by omega))
        isplitl [H0]; · iexact H0
        iexact HrV
      iexact HO
    iintro ⟨Hr, HO⟩
    iapply Hk
    isplitr [HO]
    · isplitl [Hr]; · iexact Hr
      isplitl [H1]; · iexact H1
      iapply Ho; iexact Hl
    iexact HO

theorem end_gather (h7 : 7 ≤ h) (hh : h < 14) (o : Fin 2 → ℕ) (ho : ∃ j q, o = rowOff j q)
    (a b b' : Fin 4 → ℕ) (ha : ∀ p, h + 1 ≤ a p) (hb : ∀ p, h + 1 ≤ b p) (hbq : b q = h + 1)
    (hbq' : b' q = h + 2) (hb' : ∀ p, p ≠ q → b' p = b p) :
    iprop(ctx X K ∗ during X c q h ∗ owesE c (owe c a b))
      ⊢ iprop((before X c q (h + 1) ∗ owesE c (owe c a b') -∗ Wp c k Q) -∗ Wp c (gatherAt q o ho (fromDev c q) k) Q) := by
  unfold during before gatherAt
  iintro ⟨#HI, ⟨Hs, Ho⟩, HO⟩ Hk
  iapply (waits_run X K c q h Q _ hh _ _
    (wpE_waitDma2_eq (src := piece o ho) (dst := piece o ho) (hsrc := wholeOut.wordExact_slice rfl _ (rect_words o ho))
      (hdst := wholeOut.wordExact_slice rfl _ (rect_words o ho)) 𝒱₀ (c : Thread nD τ) none Set.univ)
    (wpE_waitDma2_eq (src := piece o ho) (dst := piece o ho) (hsrc := wholeOut.wordExact_slice rfl _ (rect_words o ho))
      (hdst := wholeOut.wordExact_slice rfl _ (rect_words o ho)) 𝒱₀ (c : Thread nD τ) none Set.univ) a b ha hb) $$ [Hs HO]
  · isplitr; · iexact HI
    isplitl [Hs] <;> iassumption
  unfold sendPay recvPay
  rw [if_neg (show ¬ h < 7 by omega), ← acc_pass X q h7 c]
  iintro ⟨Hw, #HrV, Hp, ⟨Hl, #HrC⟩, HO⟩
  ihave Ho := (other_gather X c q h h7 hh) $$ [Ho Hp]
  · isplitl [Ho] <;> iassumption
  icases Ho with ⟨Ho, H0⟩
  have e : iprop((if h + 1 < 14 then pieceAny (F := F) c (back c q (h + 2)) q else iprop(emp)) ∗ reached ER (recvCell c q) (h + 1))
      ⊢ credPay (F := F) (fromDev c q) q (h + 1) := by
    by_cases h13 : h + 1 < 14
    · rw [if_pos h13]; exact credPay_piece c q (h + 1) (by omega) h13
    · rw [if_neg h13]; unfold credPay; rw [if_neg (by omega), if_neg h13]
      iintro ⟨H, -⟩; iexact H
  iapply (give_next X K c q h Q k hh a b b' hbq hbq' hb') $$ [Hw H0 HO]
  · isplitr; · iexact HI
    isplitl [Hw]; · iexact Hw
    isplitr; · iexact HrC
    isplitl [H0]
    · iapply e
      isplitl [H0]; · iexact H0
      iexact HrV
    iexact HO
  iintro ⟨Hr, HO⟩
  iapply Hk
  isplitr [HO]
  · isplitl [Hr]; · iexact Hr
    isplitl [Hl] <;> iassumption
  iexact HO

/-! ## Four streams, seven hops -/

theorem bigSep_fin4 (Φ : Fin 4 → sProp (MM F)) : bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]
  rfl

/-- A step proved for every stream runs the four of them, what is owed going down a list. -/
theorem streams_run (f : Fin 4 → Code F → Code F) (A B : Fin 4 → sProp (MM F)) (T : ℕ → Tallies)
    (hf : ∀ q k, iprop(ctx X K ∗ A q ∗ owesE c (T q.val)) ⊢ iprop((B q ∗ owesE c (T (q.val + 1)) -∗ Wp c k Q) -∗ Wp c (f q k) Q)) :
    iprop(ctx X K ∗ (bigSep Finset.univ A) ∗ owesE c (T 0))
      ⊢ iprop(((bigSep Finset.univ B) ∗ owesE c (T 4) -∗ Wp c k Q) -∗ Wp c (streams f k) Q) := by
  rw [bigSep_fin4, bigSep_fin4]
  unfold streams
  iintro ⟨#HI, ⟨H0, H1, H2, H3⟩, HO⟩ Hk
  iapply (hf 0 _) $$ [H0 HO]
  · isplitr; · iexact HI
    isplitl [H0]; · iexact H0
    iexact HO
  iintro ⟨H0, HO⟩
  iapply (hf 1 _) $$ [H1 HO]
  · isplitr; · iexact HI
    isplitl [H1]; · iexact H1
    iexact HO
  iintro ⟨H1, HO⟩
  iapply (hf 2 _) $$ [H2 HO]
  · isplitr; · iexact HI
    isplitl [H2]; · iexact H2
    iexact HO
  iintro ⟨H2, HO⟩
  iapply (hf 3 _) $$ [H3 HO]
  · isplitr; · iexact HI
    isplitl [H3]; · iexact H3
    iexact HO
  iintro ⟨H3, HO⟩
  iapply Hk
  isplitr [HO]
  · isplitl [H0]; · iexact H0
    isplitl [H1]; · iexact H1
    isplitl [H2] <;> iassumption
  iexact HO

/-- A step proved for every hop runs the seven of them. -/
theorem hops_run (f : Fin 7 → Code F → Code F) (S : ℕ → sProp (MM F))
    (hf : ∀ s k, iprop(ctx X K ∗ S s.val) ⊢ iprop((S (s.val + 1) -∗ Wp c k Q) -∗ Wp c (f s k) Q)) :
    iprop(ctx X K ∗ S 0) ⊢ iprop((S 7 -∗ Wp c k Q) -∗ Wp c (hops f k) Q) := by
  have g (s : Fin 7) (n m : ℕ) (hn : s.val = n) (hm : n + 1 = m) (k : Code F) :
      iprop(ctx X K ∗ S n) ⊢ iprop((S m -∗ Wp c k Q) -∗ Wp c (f s k) Q) := by subst hn hm; exact hf s k
  unfold hops
  iintro ⟨#HI, HS⟩ Hk
  iapply (g 0 0 1 rfl rfl _) $$ [HS]
  · isplitr; · iexact HI
    iexact HS
  iintro HS
  iapply (g 1 1 2 rfl rfl _) $$ [HS]
  · isplitr; · iexact HI
    iexact HS
  iintro HS
  iapply (g 2 2 3 rfl rfl _) $$ [HS]
  · isplitr; · iexact HI
    iexact HS
  iintro HS
  iapply (g 3 3 4 rfl rfl _) $$ [HS]
  · isplitr; · iexact HI
    iexact HS
  iintro HS
  iapply (g 4 4 5 rfl rfl _) $$ [HS]
  · isplitr; · iexact HI
    iexact HS
  iintro HS
  iapply (g 5 5 6 rfl rfl _) $$ [HS]
  · isplitr; · iexact HI
    iexact HS
  iintro HS
  iapply (g 6 6 7 rfl rfl _) $$ [HS]
  · isplitr; · iexact HI
    iexact HS
  iexact Hk

/-- The counts when the first `n` streams have moved on from `x` to `x + 1`. -/
def upto (x n : ℕ) (p : Fin 4) : ℕ := if p.val < n then x + 1 else x
theorem upto_zero (x : ℕ) : upto x 0 = fun _ => x := funext fun p => if_neg (Nat.not_lt_zero _)
theorem upto_four (x : ℕ) : upto x 4 = fun _ => x + 1 := funext fun p => if_pos p.isLt
theorem upto_self (x : ℕ) : upto x q.val q = x := if_neg (lt_irrefl _)
theorem upto_next (x : ℕ) : upto x (q.val + 1) q = x + 1 := if_pos (Nat.lt_succ_self _)
theorem upto_ne (x : ℕ) (p : Fin 4) (hp : p ≠ q) : upto x (q.val + 1) p = upto x q.val p := by
  have : p.val ≠ q.val := fun e => hp (Fin.ext e)
  unfold upto
  by_cases h : p.val < q.val
  · rw [if_pos h, if_pos (by omega)]
  · rw [if_neg h, if_neg (by omega)]
theorem le_upto (x n : ℕ) (p : Fin 4) : x ≤ upto x n p := by unfold upto; split <;> omega

/-- Before hop `h` of all streams. -/
def hopState : sProp (MM F) :=
  iprop((bigSep Finset.univ fun q => before X c q h) ∗ owesE c (owe c (fun _ => h) (fun _ => h + 1)))

theorem hop_run (f g : Fin 4 → Code F → Code F)
    (hf : ∀ (q : Fin 4) (k : Code F) (a b a' : Fin 4 → ℕ), (∀ p, h ≤ a p) → (∀ p, h + 1 ≤ b p) → a q = h → a' q = h + 1 → (∀ p, p ≠ q → a' p = a p) →
      (iprop(ctx X K ∗ before X c q h ∗ owesE c (owe c a b))
        ⊢ iprop((during X c q h ∗ owesE c (owe c a' b) -∗ Wp c k Q) -∗ Wp c (f q k) Q)))
    (hg : ∀ (q : Fin 4) (k : Code F) (a b b' : Fin 4 → ℕ), (∀ p, h + 1 ≤ a p) → (∀ p, h + 1 ≤ b p) → b q = h + 1 → b' q = h + 2 → (∀ p, p ≠ q → b' p = b p) →
      (iprop(ctx X K ∗ during X c q h ∗ owesE c (owe c a b))
        ⊢ iprop((before X c q (h + 1) ∗ owesE c (owe c a b') -∗ Wp c k Q) -∗ Wp c (g q k) Q))) :
    iprop(ctx X K ∗ hopState X c h) ⊢ iprop((hopState X c (h + 1) -∗ Wp c k Q) -∗ Wp c (streams f <| streams g k) Q) := by
  have h1 := streams_run X K c Q (streams g k) f (fun q => before X c q h) (fun q => during X c q h) (fun n => owe c (upto h n) (fun _ => h + 1))
    (fun q k => hf q k _ _ _ (fun p => le_upto h q.val p) (fun _ => le_refl _) (upto_self q h) (upto_next q h) (fun p hp => upto_ne q h p hp))
  have h2 := streams_run X K c Q k g (fun q => during X c q h) (fun q => before X c q (h + 1)) (fun n => owe c (fun _ => h + 1) (upto (h + 1) n))
    (fun q k => hg q k _ _ _ (fun _ => le_refl _) (fun p => le_upto (h + 1) q.val p) (upto_self q _) (upto_next q _) (fun p hp => upto_ne q _ p hp))
  rw [upto_zero, upto_four] at h1 h2
  unfold hopState
  iintro ⟨#HI, HS, HO⟩ Hk
  iapply h1 $$ [HS HO]
  · isplitr; · iexact HI
    isplitl [HS] <;> iassumption
  iintro ⟨HS, HO⟩
  iapply h2 $$ [HS HO]
  · isplitr; · iexact HI
    isplitl [HS] <;> iassumption
  iexact Hk

theorem reduce_run : iprop(ctx X K ∗ hopState X c 0) ⊢ iprop((hopState X c 7 -∗ Wp c k Q) -∗ Wp c (hops (reduceHop c) k) Q) :=
  hops_run X K c Q k (reduceHop c) (hopState X c) fun s k =>
    hop_run X K c s.val Q k _ _
      (fun q k a b a' ha hb h1 h2 h3 => start_reduce X K c q s.val Q k s.isLt _ _ (offSend_eq c s q) _ a b a' ha hb h1 h2 h3)
      (fun q k a b b' ha hb h1 h2 h3 => end_reduce X K c q s.val Q k s.isLt _ _ _ _ (offAdd_eq c s q) a b b' ha hb h1 h2 h3)

theorem gather_run : iprop(ctx X K ∗ hopState X c 7) ⊢ iprop((hopState X c 14 -∗ Wp c k Q) -∗ Wp c (hops (gatherHop c) k) Q) :=
  hops_run X K c Q k (gatherHop c) (fun n => hopState X c (n + 7)) fun s k => by
    rw [Nat.add_right_comm]
    exact hop_run X K c (s.val + 7) Q k _ _
      (fun q k a b a' ha hb h1 h2 h3 => start_gather X K c q (s.val + 7) Q k (by omega) (by omega) _ _ (offGather_eq c s q) _ a b a' ha hb h1 h2 h3)
      (fun q k a b b' ha hb h1 h2 h3 => end_gather X K c q (s.val + 7) Q k (by omega) (by omega) _ _ a b b' ha hb h1 h2 h3)

/-- After the last credit is awaited. -/
def done (q : Fin 4) : sProp (MM F) :=
  iprop(atPos ER (credCell c q) 15 ∅ 0 ∗ atPos ER (recvCell c q) 14 ∅ 0 ∗ atPos ER (sendCell c q) 14 ∅ 0
    ∗ (bigSep (Finset.Ico 7 15) fun i => pieceAt c (back c q i) q (acc X q i c)) ∗ landAny c q)

theorem last_run : iprop(ctx X K ∗ hopState X c 14)
    ⊢ iprop(((bigSep Finset.univ fun q => done X c q) ∗ owesE c 0 -∗ Wp c k Q)
      -∗ Wp c (streams (fun q k => .op (.semWait (credS q) (1#32).toInt) fun _ => k) k) Q) := by
  have h1 := streams_run X K c Q k (fun q k => .op (.semWait (credS q) (1#32).toInt) fun _ => k)
    (fun q => before X c q 14) (fun q => done X c q) (fun _ => owe c (fun _ => 14) (fun _ => 15)) (fun q k => by
      unfold before ready other done
      rw [if_neg (by omega), bigSep_Ico_succ_top (show 7 ≤ 14 by omega)]
      iintro ⟨#HI, ⟨⟨HaC, HaR, HaS, -, -, -, HwC, -⟩, Hp, Hd, -, Hl⟩, HO⟩ Hk
      iapply (waitCred X K c q 14 Q _ (by omega) _ _ (fun _ => le_refl _) (fun _ => le_refl _)) $$ [HaC HwC HO]
      · isplitr; · iexact HI
        isplitl [HaC]; · iexact HaC
        isplitl [HwC]; · iexact HwC
        iexact HO
      iintro ⟨HaC, -, -, -, HO⟩
      iapply Hk
      isplitr [HO]
      · isplitl [HaC]; · iexact HaC
        isplitl [HaR]; · iexact HaR
        isplitl [HaS]; · iexact HaS
        isplitl [Hp Hd]
        · isplitl [Hp] <;> iassumption
        iexact Hl
      iexact HO)
  rw [owe_done] at h1
  unfold hopState
  rw [owe_done]
  exact h1

end Cert.RingProof
-- ==== Proof.Entry.lean ====
/-
  The result block and the landing buffers cut into the pieces the streams hold and put together again; the entry of the body; the
  whole body.
-/
module

public import proofs.«01_k».proof.Proof.Hops
public import Idealize.ShloMosaic.Lib.Ring
public import Idealize.ShloMosaic.Lib.Pipeline.Value

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Cutting -/

theorem mem_piece (j : Fin 8) (q : Fin 4) (i : S4096x2048.Idx) : i ∈ (pc j q).view.set ↔ chunkOf i = j ∧ streamOf i = q := by
  have e : (pc j q).view.set = (rect (rowOff j q) ⟨j, q, rfl⟩).set := View.set_slice_whole cc0_stg1_0 _
  rw [e]; unfold rect
  rw [Rect.mem_set_unit]
  have h0 : (i 0).val < 4096 := (i 0).isLt
  have h1 : (i 1).val < 2048 := (i 1).isLt
  constructor
  · intro h
    have h := h 0
    have h : 512 * j.val + 128 * q.val ≤ (i 0).val ∧ (i 0).val < 512 * j.val + 128 * q.val + 128 := h
    refine ⟨Fin.ext ?_, Fin.ext ?_⟩ <;> simp only [chunkOf, streamOf] <;> omega
  · rintro ⟨rfl, rfl⟩ a
    match a with
    | 0 =>
      show 512 * ((i 0).val / 512) + 128 * ((i 0).val % 512 / 128) ≤ (i 0).val
        ∧ (i 0).val < 512 * ((i 0).val / 512) + 128 * ((i 0).val % 512 / 128) + 128
      omega
    | 1 => exact ⟨Nat.zero_le _, by show (i 1).val < 0 + 2048; omega⟩

theorem mem_land (q : Fin 4) (i : S4x128x2048.Idx) : i ∈ (land q).view.set ↔ (i 0).val = q.val := by
  have e : (land q).view.set = (landRect q).set := (View.set_reshape _ _).trans (View.set_slice_whole cc0_scratch0 _)
  rw [e, Rect.mem_set_unit]
  have h1 : (i 1).val < 128 := (i 1).isLt
  have h2 : (i 2).val < 2048 := (i 2).isLt
  constructor
  · intro h
    have h : q.val ≤ (i 0).val ∧ (i 0).val < q.val + 1 := h 0
    omega
  · intro h a
    match a with
    | 0 => show q.val ≤ (i 0).val ∧ (i 0).val < q.val + 1; omega
    | 1 => exact ⟨Nat.zero_le _, by show (i 1).val < 0 + 128; omega⟩
    | 2 => exact ⟨Nat.zero_le _, by show (i 2).val < 0 + 2048; omega⟩

section
variable (c : Dev nD)

/-- The result block, the block read and the landing buffers, whole. -/
def outAt (W : Block F) : sProp (MM F) := ((c : Thread nD τ).loc cc0_stg1_0) ↦{fullShare} W
def inAt (W : Block F) : sProp (MM F) := ((c : Thread nD τ).loc cc0_stg0_0) ↦{fullShare} W
def landsAny : sProp (MM F) := iprop(∃ f : Buf (Elt F) ((c : Thread nD τ).loc cc0_scratch0), ((c : Thread nD τ).loc cc0_scratch0) ↦{fullShare} f)

theorem out_pieces (W : Block F) :
    (outAt c W : sProp (MM F)) = bigSep Finset.univ fun q : Fin 4 => bigSep Finset.univ fun j : Fin 8 => pieceAt c j q W := by
  unfold outAt pieceAt
  have e := Ring.pointsTo_blocks (nD := nD) (τ := τ) (sig := sig) (Ix := ℕ) (Val := Elt F) (Name := ℕ) (U := UU) (Lvl := ℕ)
    (ℓ := (c : Thread nD τ).loc cc0_stg1_0) (B := Fin 4 × Fin 8) (fun b => (pc b.2 b.1).view.set)
    (fun b b' hne => Finset.disjoint_left.mpr fun i h h' => hne (by
      obtain ⟨h1, h2⟩ := (mem_piece b.2 b.1 i).mp h
      obtain ⟨h3, h4⟩ := (mem_piece b'.2 b'.1 i).mp h'
      exact Prod.ext (h2.symm.trans h4) (h1.symm.trans h3)))
    (Finset.eq_univ_iff_forall.mpr fun i => Finset.mem_biUnion.mpr ⟨(streamOf i, chunkOf i), Finset.mem_univ _,
      (mem_piece (chunkOf i) (streamOf i) i).mpr ⟨rfl, rfl⟩⟩) (q := fullShare) W
  rw [e, bigSep_univ_prod]

theorem lands_cut : (landsAny c : sProp (MM F)) ⊢ bigSep Finset.univ fun q : Fin 4 => landAny (F := F) c q := by
  unfold landsAny
  iintro ⟨%f, H⟩
  have e := Ring.pointsTo_blocks (nD := nD) (τ := τ) (sig := sig) (Ix := ℕ) (Val := Elt F) (Name := ℕ) (U := UU) (Lvl := ℕ)
    (ℓ := (c : Thread nD τ).loc cc0_scratch0) (B := Fin 4) (fun q => (land q).view.set)
    (fun b b' hne => Finset.disjoint_left.mpr fun i h h' => hne (Fin.ext (((mem_land b i).mp h).symm.trans ((mem_land b' i).mp h'))))
    (Finset.eq_univ_iff_forall.mpr fun i => Finset.mem_biUnion.mpr ⟨⟨(i 0).val, (i 0).isLt⟩, Finset.mem_univ _,
      (mem_land _ i).mpr rfl⟩) (q := fullShare) f
  ihave H := (Entails.of_eq e) $$ H
  have e1 (q : Fin 4) : (((c : Thread nD τ).loc cc0_scratch0 ↦[(land q).view.set]{fullShare} f : sProp (MM F))) ⊢ landAny (F := F) c q := by
    unfold landAny landPts
    iintro H; iexists f; iexact H
  have e2 : (bigSep Finset.univ fun q : Fin 4 => ((c : Thread nD τ).loc cc0_scratch0 ↦[(land q).view.set]{fullShare} f : sProp (MM F)))
      ⊢ bigSep Finset.univ fun q : Fin 4 => landAny (F := F) c q := bigSep_mono fun q _ => e1 q
  iapply e2 $$ H

theorem lands_join : (bigSep Finset.univ fun q : Fin 4 => landAny (F := F) c q) ⊢ (landsAny c : sProp (MM F)) := by
  have f₀ : Buf (Elt F) ((c : Thread nD τ).loc cc0_scratch0) := fun _ => FloatOps.ofBits _ 0
  have e := Ring.pointsTo_blocks_join_exists (nD := nD) (τ := τ) (sig := sig) (Ix := ℕ) (Val := Elt F) (Name := ℕ) (U := UU) (Lvl := ℕ)
    (ℓ := (c : Thread nD τ).loc cc0_scratch0) (B := Fin 4) (fun q => (land q).view.set)
    (fun b b' hne => Finset.disjoint_left.mpr fun i h h' => hne (Fin.ext (((mem_land b i).mp h).symm.trans ((mem_land b' i).mp h'))))
    (Finset.eq_univ_iff_forall.mpr fun i => Finset.mem_biUnion.mpr ⟨⟨(i 0).val, (i 0).isLt⟩, Finset.mem_univ _,
      (mem_land _ i).mpr rfl⟩) (q := fullShare) f₀
  exact e

/-- The chunks in the order a stream meets them. -/
theorem around (q : Fin 4) (s : ℕ) (hs : s = 0 ∨ s = 7) (Φ : Fin 8 → sProp (MM F)) :
    (bigSep (Finset.Ico s (s + 8)) fun i => Φ (back c q i)) = bigSep Finset.univ Φ := by
  have hinj : Set.InjOn (back c q) (Finset.Ico s (s + 8) : Finset ℕ) := by
    rcases hs with rfl | rfl <;> (revert c q; decide +kernel)
  have him : (Finset.Ico s (s + 8)).image (back c q) = Finset.univ := by
    rcases hs with rfl | rfl <;> (revert c q; decide +kernel)
  rw [← him, bigSep_image_of_injOn hinj]

/-- After the all-gather every piece is the ring's sum. -/
theorem acc_final (X : Dev nD → Block F) (q : Fin 4) (n : ℕ) : ∀ (c : Dev nD),
    acc X q (n + 7) c = acc X q 7 (back (back c q (n + 7)) q 1) := by
  induction n with
  | zero =>
    intro c
    have h : ∀ (c : Dev nD) (q : Fin 4), back (back c q (0 + 7)) q 1 = c := by decide +kernel
    rw [h, Nat.zero_add]
  | succ n ih =>
    intro c
    rw [Nat.add_right_comm, acc_pass X q (by omega), ih (fromDev c q), back_from]

theorem piece_final (X : Dev nD → Block F) (q : Fin 4) (n : ℕ) (hn : 7 ≤ n) :
    (pieceAt c (back c q n) q (acc X q n c) : sProp (MM F)) = pieceAt c (back c q n) q (ringSum X) := by
  unfold pieceAt
  refine pointsTo_congr fun i hi => ?_
  obtain ⟨h1, h2⟩ := (mem_piece _ _ i).mp hi
  obtain ⟨k, rfl⟩ : ∃ k, n = k + 7 := ⟨n - 7, by omega⟩
  unfold ringSum
  rw [h1, h2, ← acc_final X q k c]

end

/-! ## The whole block read and written -/

theorem wholeRect_idx (x : S4096x2048.Idx) : wholeRect.idx x = x := by
  funext a
  apply Fin.ext
  match a with
  | 0 => show 0 + 1 * (x _).val = (x _).val; omega
  | 1 => show 0 + 1 * (x _).val = (x _).val; omega

theorem whole_read (f : Block F) : (inM.access wholeRect).read (Elt F) f = f :=
  funext fun x => congrArg f (wholeRect_idx x)
theorem whole_write (f w : Block F) : (outM.access wholeRect).write (Elt F) f w Finset.univ = w := by
  funext i
  have e : (outM.access wholeRect).emb i = i := wholeRect_idx i
  have h := View.write_emb_of_mem (v := outM.access wholeRect) (Val := Elt F) f w (M := Finset.univ) (Finset.mem_univ i)
  rw [e] at h
  exact h

/-! ## The entry -/

section
variable (X : Dev nD → Block F) (K : GSem nD τ sig → ℕ) (c : Dev nD) (Q : PUnit → sProp (MM F)) (k : Code F)

/-- What a stream starts with. -/
def startS (q : Fin 4) : sProp (MM F) :=
  iprop(atPos ER (credCell c q) 0 ∅ 0 ∗ atPos ER (recvCell c q) 0 ∅ 0 ∗ atPos ER (sendCell c q) 0 ∅ 0
    ∗ reached ER (sendCell c q) 0 ∗ reached ER (recvCell c q) 0
    ∗ rights (F := F) c q 0 ∗ awaitR (F := F) c q 0 ∗ awaitC (F := F) c q 0 ∗ giveT (F := F) c q 0)

/-- A stream between the barrier and its first credit, and after it. -/
def unpaid (q : Fin 4) : sProp (MM F) :=
  iprop(startS (F := F) c q ∗ landAny (F := F) c q ∗ reached ER (credCell (fromDev c q) q) 0)

/-- What a device owes at launch. -/
def owe₀ : Tallies :=
  (owe c (fun _ => 0) (fun _ => 0) + tallyAt (barCell (nb c true)) 0 1) + tallyAt (barCell (nb c false)) 0 1

/-- What the body starts with. -/
def bodyPre : sProp (MM F) :=
  iprop((bigSep Finset.univ fun q => startS (F := F) c q) ∗ (bigSep Finset.univ fun q => reached ER (credCell c q) 0)
    ∗ atPos ER (barCell c) 0 ∅ 0 ∗ reached ER (barCell (nb c false)) 0 ∗ reached ER (barCell (nb c true)) 0
    ∗ dutyTok ER (barCell (nb c false)) 0 true ∗ dutyTok ER (barCell (nb c true)) 0 false
    ∗ cred (tallyAt (barCell c) 0 2) ∗ landsAny (F := F) c ∗ inAt c (X c) ∗ (∃ f, outAt (F := F) c f) ∗ owesE c (owe₀ c))

theorem nb_back : nb (nb c false) true = c ∧ nb (nb c true) false = c := by revert c; decide +kernel
theorem nb_from : ∀ (c : Dev nD) (q : Fin 4), fromDev c q = nb c (decide (2 ≤ q.val)) := by decide +kernel

theorem reached_all : iprop(barPay (F := F) c false ∗ barPay (F := F) c true)
    ⊢ bigSep Finset.univ fun q => reached ER (credCell (fromDev c q) q) 0 := by
  unfold barPay
  rw [bigSep_fin4, bigSep_fin4, bigSep_fin4, nb_from c 0, nb_from c 1, nb_from c 2, nb_from c 3]
  iintro ⟨⟨H0, H1, -, -⟩, -, -, H2, H3⟩
  isplitl [H0]; · iexact H0
  isplitl [H1]; · iexact H1
  isplitl [H2]; · iexact H2
  iexact H3

theorem first_credit (q : Fin 4) (k : Code F) (b b' : Fin 4 → ℕ) (hbq : b q = 0) (hbq' : b' q = 1) (hb' : ∀ p, p ≠ q → b' p = b p) :
    iprop(ctx X K ∗ unpaid (F := F) c q ∗ owesE c (owe c (fun _ => 0) b))
      ⊢ iprop((ready (F := F) c q 0 ∗ owesE c (owe c (fun _ => 0) b') -∗ Wp c k Q)
        -∗ Wp c (.op (.semSignal (Dev.tc (fromDev c q)) (credS q) (1#32).toInt) fun _ => k) Q) := by
  unfold unpaid startS
  iintro ⟨#HI, ⟨⟨HaC, HaR, HaS, #HrS, #HrR, Hri, HwR, HwC, Hg⟩, Hl, #HrC⟩, HO⟩ Hk
  iapply (give_run X K c q 0 Q k (by omega) (fun _ => 0) b b' hbq hbq' hb') $$ [Hg Hl HO]
  · isplitr; · iexact HI
    isplitl [Hg]; · iexact Hg
    isplitr; · iexact HrC
    isplitl [Hl]
    · iapply (credPay_land (F := F) c q 0 (by omega))
      isplitl [Hl]; · iexact Hl
      iexact HrR
    iexact HO
  iintro ⟨Hg, HO⟩
  iapply Hk
  isplitr [HO]
  · unfold ready
    isplitl [HaC]; · iexact HaC
    isplitl [HaR]; · iexact HaR
    isplitl [HaS]; · iexact HaS
    isplitr; · iexact HrS
    isplitl [Hri]; · iexact Hri
    isplitl [HwR]; · iexact HwR
    isplitl [HwC]; · iexact HwC
    iexact Hg
  iexact HO

/-- The pieces of the result block as the streams hold them before the first hop. -/
theorem start_pieces : (outAt c (X c) : sProp (MM F))
    ⊢ bigSep Finset.univ fun q => iprop(pieceAt c (back c q 0) q (acc X q 0 c) ∗ other X c q 0) := by
  rw [out_pieces]
  have e (q : Fin 4) : (bigSep Finset.univ fun j : Fin 8 => pieceAt c j q (X c) : sProp (MM F))
      ⊢ iprop(pieceAt c (back c q 0) q (acc X q 0 c) ∗ other X c q 0) := by
    rw [← around c q 0 (.inl rfl) (fun j => pieceAt c j q (X c)), bigSep_Ico_succ_bot (by omega)]
    unfold other
    rw [if_pos (by omega), Finset.Ico_self, bigSep_empty]
    iintro ⟨H1, H2⟩
    isplitl [H1]; · iexact H1
    isplitr; · iempintro
    iexact H2
  exact bigSep_mono fun q _ => e q

theorem end_pieces : (bigSep Finset.univ fun q => bigSep (Finset.Ico 7 15) fun i => pieceAt c (back c q i) q (acc X q i c) : sProp (MM F))
    ⊢ outAt c (ringSum X) := by
  rw [out_pieces]
  have e (q : Fin 4) : (bigSep (Finset.Ico 7 15) fun i => pieceAt c (back c q i) q (acc X q i c) : sProp (MM F))
      ⊢ bigSep Finset.univ fun j : Fin 8 => pieceAt c j q (ringSum X) := by
    rw [← around c q 7 (.inr rfl) (fun j => pieceAt c j q (ringSum X))]
    exact bigSep_mono fun i hi => Entails.of_eq (piece_final c X q i (Finset.mem_Ico.mp hi).1)
  exact bigSep_mono fun q _ => e q

theorem hop_intro : iprop((bigSep Finset.univ fun q => ready (F := F) c q 0)
      ∗ (bigSep Finset.univ fun q => iprop(pieceAt c (back c q 0) q (acc X q 0 c) ∗ other X c q 0)) ∗ owesE c (owe c (fun _ => 0) (fun _ => 0 + 1)))
    ⊢ hopState X c 0 := by
  unfold hopState before
  rw [bigSep_sep' (Φ := fun q => ready (F := F) c q 0)]
  iintro ⟨H1, H2, H3⟩
  isplitr [H3]
  · isplitl [H1] <;> iassumption
  iexact H3

theorem unpaid_intro : iprop((bigSep Finset.univ fun q => startS (F := F) c q) ∗ (bigSep Finset.univ fun q => landAny (F := F) c q)
      ∗ (bigSep Finset.univ fun q => reached ER (credCell (fromDev c q) q) 0))
    ⊢ (bigSep Finset.univ fun q => unpaid (F := F) c q) := by
  unfold unpaid
  rw [bigSep_sep', bigSep_sep']

theorem entry_run : iprop(ctx X K ∗ bodyPre X c)
    ⊢ iprop((hopState X c 0 ∗ atPos ER (barCell c) 1 ∅ 0 ∗ inAt c (X c) -∗ Wp c k Q) -∗ Wp c (entry c k) Q) := by
  have hs := streams_run X K c Q (.op (.load inM wholeRect.toLoadRect (View.loadsAt_vmem h_S4096x2048)) fun (v : Vec F S4096x2048 .bf16) =>
      .op (.load outM wholeRect.toLoadRect (View.loadsAt_vmem h_S4096x2048)) fun (_ : Vec F S4096x2048 .bf16) =>
      .op (.store outM wholeRect (k0_pay1 v) Finset.univ
        (View.stores_vmem h_S4096x2048 (wholeOut.storeExact_slice rfl _ packedbf16_S4096x2048_S4096x2048_0_0) (fun _ => rfl)) (.inl rfl))
        fun _ => k)
    (fun q k => .op (.semSignal (Dev.tc (fromDev c q)) (credS q) (1#32).toInt) fun _ => k)
    (fun q => unpaid (F := F) c q) (fun q => ready (F := F) c q 0) (fun n => owe c (fun _ => 0) (upto 0 n))
    (fun q k => first_credit X K c Q q k _ _ (upto_self q 0) (upto_next q 0) (fun p hp => upto_ne q 0 p hp))
  rw [upto_zero, upto_four] at hs
  unfold bodyPre entry owesE owe₀
  iintro ⟨#HI, HS, #HrC, Hat, #HrL, #HrR, HtL, HtR, Hc, Hl, Hin, ⟨%f, Ho⟩, ⟨%W, HO⟩⟩ Hk
  iapply (Rounds.wp_signal 𝒱₀ ER (Rd X) (c : Thread nD τ) none (dst := (nb c false : Thread nD τ)) (sem := barS) (r := 0) (d := true)
      (κ := K (barCell (nb c false)))
      (by rw [duties_bar]; exact Finset.mem_univ _) (amount_bar X (nb c false) 0 true) 0
      (owe c (fun _ => 0) (fun _ => 0) + tallyAt (barCell (nb c true)) 0 1) rfl) $$ [HO HtL]
  · isplitr; · iapply (ctx_bar X K (nb c false)); iexact HI
    isplitl [HO]; · iexact HO
    isplitl [HtL]; · iexact HtL
    isplitr
    · rw [payload_bar]; unfold barPay; rw [(nb_back c).1]; iexact HrC
    iexact HrL
  iintro HO
  iapply (Rounds.wp_signal 𝒱₀ ER (Rd X) (c : Thread nD τ) none (dst := (nb c true : Thread nD τ)) (sem := barS) (r := 0) (d := false)
      (κ := K (barCell (nb c true)))
      (by rw [duties_bar]; exact Finset.mem_univ _) (amount_bar X (nb c true) 0 false) 0
      (owe c (fun _ => 0) (fun _ => 0)) rfl) $$ [HO HtR]
  · isplitr; · iapply (ctx_bar X K (nb c true)); iexact HI
    isplitl [HO]; · iexact HO
    isplitl [HtR]; · iexact HtR
    isplitr
    · rw [payload_bar]; unfold barPay; rw [(nb_back c).2]; iexact HrC
    iexact HrR
  iintro HO
  iapply (Rounds.wp_wait_rest_token 𝒱₀ ER (Rd X) (c : Thread nD τ) none (κ := K (barCell c))
      (wpE_semWait_eq 𝒱₀ (c : Thread nD τ) none Set.univ) (Set.mem_univ _) 0 (O := owe c (fun _ => 0) (fun _ => 0)) (W := W) (R := 0) (m := 0) (T := ∅)
      ((Nat.zero_add 2).trans (expect_bar X c).symm)) $$ [Hc HO Hat]
  · isplitr; · iapply (ctx_bar X K c); iexact HI
    isplitl [Hc]; · iexact Hc
    isplitl [HO]; · iexact HO
    isplitr
    · iapply (mayWait (F := F) c (.reg barS) 0 1 _ _ (by omega) (le_refl _) (fun _ => by omega) (fun _ => by omega))
      iapply (ctx_lev X K); iexact HI
    iexact Hat
  iintro ⟨HO, Hat, -, Hpay⟩
  ihave Hp := (Entails.of_eq (rest_bar X c)) $$ Hpay
  ihave Hr := (reached_all (F := F) c) $$ Hp
  ihave Hl := (lands_cut (F := F) c) $$ Hl
  iapply hs $$ [HS Hl Hr HO]
  · isplitr; · iexact HI
    isplitr [HO]
    · iapply (unpaid_intro (F := F) c)
      isplitl [HS]; · iexact HS
      isplitl [Hl] <;> iassumption
    unfold owesE; iexists _; iexact HO
  iintro ⟨HS, HO⟩
  unfold inAt outAt
  iapply (wp_load_rect 𝒱₀ (c : Thread nD τ) none Set.univ (m := inM) (r := wholeRect) (S := Finset.univ) (f := X c) (Finset.subset_univ _)) $$ [Hin]
  · iexact Hin
  iintro Hin
  iapply (wp_load_rect 𝒱₀ (c : Thread nD τ) none Set.univ (m := outM) (r := wholeRect) (S := Finset.univ) (f := f) (Finset.subset_univ _)) $$ [Ho]
  · iexact Ho
  iintro Ho
  iapply (wp_store 𝒱₀ (c : Thread nD τ) none Set.univ (m := outM) (r := wholeRect) (S := Finset.univ) (f := f) (Finset.subset_univ _)) $$ [Ho]
  · iexact Ho
  iintro Ho
  have ew : (outM.access wholeRect).write (Elt F) f (k0_pay1 ((inM.access wholeRect).read (Elt F) (X c))) Finset.univ = X c := by
    rw [whole_read, whole_write]
    exact shapeCast_self _ _
  have ep : ((outM.access wholeRect).loc (c : Thread nD τ) ↦{fullShare}
      ((outM.access wholeRect).write (Elt F) f (k0_pay1 ((inM.access wholeRect).read (Elt F) (X c))) Finset.univ) : sProp (MM F))
      ⊢ bigSep Finset.univ fun q => iprop(pieceAt c (back c q 0) q (acc X q 0 c) ∗ other X c q 0) := by
    rw [ew]; exact start_pieces X c
  ihave Ho := ep $$ Ho
  iapply Hk
  isplitr [Hat Hin]
  · iapply (hop_intro X c)
    isplitl [HS]; · iexact HS
    isplitl [Ho] <;> iassumption
  isplitl [Hat]; · iexact Hat
  iexact Hin

/-! ## The whole body -/

/-- What the body ends with: every counter back at zero, the landing buffers at some contents, the block read as it was, the
    result block at the sum over the ring, nothing owed. -/
def bodyPost : sProp (MM F) :=
  iprop(semVal (barCell c) 0 ∗ (bigSep Finset.univ fun q => iprop(semVal (credCell c q) 0 ∗ semVal (sendCell c q) 0 ∗ semVal (recvCell c q) 0))
    ∗ landsAny (F := F) c ∗ inAt c (X c) ∗ outAt c (ringSum X) ∗ owesE c 0)

theorem close_bar : iprop(ctx X K ∗ atPos ER (barCell c) 1 ∅ 0) ⊢ (|={Set.univ}=> semVal (barCell c) 0 : sProp (MM F)) := by
  iintro ⟨#HI, Ha⟩
  iapply (Rounds.cell_close ER (Rd X) (Set.mem_univ (K (barCell c))) id (duties_bar_later X c))
  isplitr; · iapply (ctx_bar X K c); iexact HI
  iexact Ha

theorem close_stream (q : Fin 4) : iprop(ctx X K ∗ done X c q)
    ⊢ (|={Set.univ}=> ((semVal (credCell c q) 0 ∗ semVal (sendCell c q) 0 ∗ semVal (recvCell c q) 0)
      ∗ (bigSep (Finset.Ico 7 15) fun i => pieceAt c (back c q i) q (acc X q i c)) ∗ landAny (F := F) c q) : sProp (MM F)) := by
  unfold done
  iintro ⟨#HI, HaC, HaR, HaS, Hp, Hl⟩
  imod (Rounds.cell_close ER (Rd X) (Set.mem_univ (K (credCell c q))) id (duties_cred_later X c q)) $$ [HaC] with HC
  · isplitr; · iapply (ctx_cred X K c q); iexact HI
    iexact HaC
  imod (Rounds.cell_close ER (Rd X) (Set.mem_univ (K (sendCell c q))) id (duties_send_later X c q)) $$ [HaS] with HS
  · isplitr; · iapply (ctx_send X K c q); iexact HI
    iexact HaS
  imod (Rounds.cell_close ER (Rd X) (Set.mem_univ (K (recvCell c q))) id (duties_recv_later X c q)) $$ [HaR] with HR
  · isplitr; · iapply (ctx_recv X K c q); iexact HI
    iexact HaR
  imodintro
  isplitl [HC HS HR]
  · isplitl [HC]; · iexact HC
    isplitl [HS] <;> iassumption
  isplitl [Hp] <;> iassumption

theorem close_streams : iprop(ctx X K ∗ bigSep Finset.univ fun q => done X c q)
    ⊢ (|={Set.univ}=> ((bigSep Finset.univ fun q => iprop(semVal (credCell c q) 0 ∗ semVal (sendCell c q) 0 ∗ semVal (recvCell c q) 0))
      ∗ outAt c (ringSum X) ∗ landsAny (F := F) c) : sProp (MM F)) := by
  have e2 : iprop(ctx X K ∗ bigSep Finset.univ fun q => done X c q) ⊢ (|={Set.univ}=> bigSep Finset.univ fun q =>
      iprop((semVal (credCell c q) 0 ∗ semVal (sendCell c q) 0 ∗ semVal (recvCell c q) 0)
      ∗ (bigSep (Finset.Ico 7 15) fun i => pieceAt c (back c q i) q (acc X q i c)) ∗ landAny (F := F) c q) : sProp (MM F)) :=
    (bigSep_with_persistent fun q _ => close_stream X K c q).trans (bigSep_fupd _ _)
  rw [bigSep_sep', bigSep_sep' (Φ := fun q => bigSep (Finset.Ico 7 15) fun i => pieceAt c (back c q i) q (acc X q i c))] at e2
  iintro H
  imod e2 $$ H with ⟨Hs, Hp, Hl⟩
  imodintro
  isplitl [Hs]; · iexact Hs
  isplitl [Hp]; · iapply (end_pieces X c); iexact Hp
  iapply (lands_join (F := F) c); iexact Hl

theorem ring_run : iprop(ctx X K ∗ bodyPre X c ∗ (bodyPost X c -∗ Q ⟨⟩)) ⊢ Wp c (ring (F := F)) Q := by
  simp only [ring, wp_deviceId]
  have er : iprop(|={Set.univ}=> Q ⟨⟩) ⊢ Wp c (.ret ⟨⟩ : Code F) Q := by unfold Wp; rw [wp_ret]
  iintro ⟨#HI, Hpre, HQ⟩
  iapply (entry_run X K c Q _) $$ [Hpre]
  · isplitr; · iexact HI
    iexact Hpre
  iintro ⟨HS, Hat, Hin⟩
  iapply (reduce_run X K c Q _) $$ [HS]
  · isplitr; · iexact HI
    iexact HS
  iintro HS
  iapply (gather_run X K c Q _) $$ [HS]
  · isplitr; · iexact HI
    iexact HS
  iintro HS
  iapply (last_run X K c Q _) $$ [HS]
  · isplitr; · iexact HI
    iexact HS
  iintro ⟨HD, HO⟩
  iapply er
  imod (close_bar X K c) $$ [Hat] with Hb
  · isplitr; · iexact HI
    iexact Hat
  imod (close_streams X K c) $$ [HD] with ⟨Hs, Hout, Hl⟩
  · isplitr; · iexact HI
    iexact HD
  imodintro
  iapply HQ
  unfold bodyPost
  isplitl [Hb]; · iexact Hb
  isplitl [Hs]; · iexact Hs
  isplitl [Hl]; · iexact Hl
  isplitl [Hin]; · iexact Hin
  isplitl [Hout]; · iexact Hout
  iexact HO

end

end Cert.RingProof
-- ==== Proof.Region.lean ====
/-
  The kernel's call as one segment of the program: its staged operand and result are whole arrays, so the body finds the device's
  partial product in the first staging buffer and what it leaves in the second becomes the result array.
-/
module

public import proofs.«01_k».proof.Proof.Entry
public import Idealize.ShloMosaic.Lib.Pipeline.RegionTalk

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

variable (m : (ℓ : Loc nD τ sig) → Buf (Elt F) ℓ)

/-- What a device brings to the ring: its partial product, as the operations before the call compute it. -/
def part (c : Dev nD) : Block F := V7 m c main_v48

/-- The buffers after the call: the result array holds the sum over the ring. -/
def VEnd (c : Dev nD) : Valuation τ sig (Elt F) := Function.update (V7 m c) (Proc.devRef .tc main_v49) (ringSum (part m))

theorem VEnd_v49 (c : Dev nD) : VEnd m c (Proc.devRef .tc main_v49) = ringSum (part m) := Function.update_self ..
theorem VEnd_ne (c : Dev nD) {b : DevRef τ sig} (h : b ≠ Proc.devRef .tc main_v49) : VEnd m c b = V7 m c b := Function.update_of_ne h ..

/-- The device's start, apart from its buffers. -/
def startD (c : Dev nD) : sProp (MM F) :=
  iprop((bigSep Finset.univ fun q => startS (F := F) c q) ∗ (bigSep Finset.univ fun q => reached ER (credCell c q) 0)
    ∗ atPos ER (barCell c) 0 ∅ 0 ∗ reached ER (barCell (nb c false)) 0 ∗ reached ER (barCell (nb c true)) 0
    ∗ dutyTok ER (barCell (nb c false)) 0 true ∗ dutyTok ER (barCell (nb c true)) 0 false
    ∗ cred (tallyAt (barCell c) 0 2))

/-- The twelve counters of a device at zero. -/
def zeros (c : Dev nD) : sProp (MM F) :=
  bigSep Finset.univ fun q => iprop(semVal (credCell c q) 0 ∗ semVal (sendCell c q) 0 ∗ semVal (recvCell c q) 0)

def Xk (c : Dev nD) : sProp (MM F) := iprop(∃ K, ctx (part m) K ∗ startD (F := F) c)
def Φ₀ (c : Dev nD) : sProp (MM F) := iprop(Xk m c ∗ landsAny c ∗ ∃ r, prngReg c r)
def Φ₁ (c : Dev nD) : sProp (MM F) := iprop((semVal (barCell c) 0 ∗ zeros c) ∗ landsAny c ∗ ∃ r, prngReg c r)

def dats (_ : Fin 1) (c : Dev nD) : Dat τ (Elt F) ℕ ℕ UU ℕ cfg0 c where
  A w := match w with
    | ⟨0, _⟩ => V7 m c main_v48
    | ⟨1, _⟩ => V7 m c main_v49
  after w _ := match w with
    | ⟨0, _⟩ => part m c
    | ⟨1, _⟩ => ringSum (part m)
  Φ t := match t with
    | ⟨0, _⟩ => Φ₀ m c
    | ⟨_ + 1, _⟩ => Φ₁ c
  q _ := fullShare
  owed t := match t with
    | ⟨0, _⟩ => owe₀ c
    | ⟨_ + 1, _⟩ => 0

theorem read_blk0 (t : Fin cfg0.N) (f : Block F) : (win0_0.blk t).view.read (Elt F) f = f := by
  obtain rfl := fin_N0 t
  funext i
  refine congrArg f (funext fun a => Fin.ext ?_)
  match a with
  | ⟨0, _⟩ => show 0 * 4096 + 1 * (i 0).val = (i 0).val; omega
  | ⟨1, _⟩ => show 0 * 2048 + 1 * (i 1).val = (i 1).val; omega

theorem before_in (c : Dev nD) (d) : (dats m 0 c).before (0 : Fin 2) t0_0 d = part m c := by
  unfold Dat.before
  rw [if_pos (fetch0_0 t0_0)]
  exact read_blk0 t0_0 (part m c)

theorem owns_whole_eq (c : Dev nD) (b : Ref sig .tc) (X : b.ty.Contents (Elt F)) :
    (owns (Ix := ℕ) (Name := ℕ) (U := UU) (Lvl := ℕ) (c : Thread nD τ) (Memref.whole b) fullShare X : sProp (MM F))
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def stg (c : Dev nD) (b : Ref sig .tc) (X : b.ty.Contents (Elt F)) : sProp (MM F) :=
  iprop(∃ f : Buf (Elt F) (((c : Dev nD) : Thread nD τ).loc b), ⌜f = X⌝ ∗ (((c : Thread nD τ).loc b) ↦{fullShare} f))

theorem stg_in (c : Dev nD) (W : Block F) : stg c cc0_stg0_0 W = inAt c W := by
  have e1 : stg c cc0_stg0_0 W ⊢ inAt c W := by
    unfold stg inAt; iintro ⟨%f, %h, H⟩; subst h; iexact H
  have e2 : inAt c W ⊢ stg c cc0_stg0_0 W := by
    unfold stg inAt; iintro H; iexists W; isplitr; · ipureintro; rfl
    iexact H
  exact Entails.antisymm e1 e2
theorem stg_out (c : Dev nD) (W : Block F) : stg c cc0_stg1_0 W = outAt c W := by
  have e1 : stg c cc0_stg1_0 W ⊢ outAt c W := by
    unfold stg outAt; iintro ⟨%f, %h, H⟩; subst h; iexact H
  have e2 : outAt c W ⊢ stg c cc0_stg1_0 W := by
    unfold stg outAt; iintro H; iexists W; isplitr; · ipureintro; rfl
    iexact H
  exact Entails.antisymm e1 e2

theorem owesAt_give (c : Dev nD) (t : Fin (cfg0.N + 1)) (O : Tallies) (h0 : (dats (F := F) m 0 c).owed t = O) :
    owesE (F := F) c O ⊢ ((dats m 0 c).owesAt 0 t : sProp (MM F)) := by
  unfold owesE Dat.owesAt Pipeline.owesWithin Dat.bound; rw [h0]
  iintro ⟨%W, HO⟩; iexists W; isplitr; · ipureintro; exact fun _ _ => Or.inl trivial
  iexact HO
theorem owesAt_take (c : Dev nD) (t : Fin (cfg0.N + 1)) (O : Tallies) (h0 : (dats (F := F) m 0 c).owed t = O) :
    ((dats m 0 c).owesAt 0 t : sProp (MM F)) ⊢ owesE (F := F) c O := by
  unfold owesE Dat.owesAt Pipeline.owesWithin; rw [h0]
  iintro ⟨%W, -, HO⟩; iexists W; iexact HO

def pre0 (c : Dev nD) : sProp (MM F) :=
  iprop(Φ₀ m c ∗ (dats m 0 c).owesAt 0 t0_0.castSucc
    ∗ (∃ d, stg c cc0_stg0_0 ((dats m 0 c).before (0 : Fin 2) t0_0 d)) ∗ (∃ d, stg c cc0_stg1_0 ((dats m 0 c).before (1 : Fin 2) t0_0 d)))
def post0 (c : Dev nD) : sProp (MM F) :=
  iprop(Φ₁ (F := F) c ∗ (dats m 0 c).owesAt 0 t0_0.succ ∗ stg c cc0_stg0_0 (part m c) ∗ stg c cc0_stg1_0 (ringSum (part m)))

theorem in_found (c : Dev nD) : iprop(∃ d, stg c cc0_stg0_0 ((dats m 0 c).before (0 : Fin 2) t0_0 d)) ⊢ inAt c (part m c) := by
  rw [← stg_in]; iintro ⟨%d, H⟩; rw [before_in]; iexact H
theorem out_found (c : Dev nD) : iprop(∃ d, stg c cc0_stg1_0 ((dats m 0 c).before (1 : Fin 2) t0_0 d)) ⊢ iprop(∃ f, outAt (F := F) c f) := by
  iintro ⟨%d, H⟩; iexists ((dats m 0 c).before (1 : Fin 2) t0_0 d); rw [← stg_out]; iexact H

theorem body_entry (c : Dev nD) (K : GSem nD τ sig → ℕ) :
    iprop(startD (F := F) c ∗ landsAny c ∗ inAt c (part m c) ∗ (∃ f, outAt (F := F) c f) ∗ owesE c (owe₀ c)) ⊢ bodyPre (part m) c := by
  unfold startD bodyPre
  iintro ⟨⟨H1, H2, H3, H4, H5, H6, H7, H8⟩, HL, HI, HO, HW⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HL]; · iexact HL
  isplitl [HI]; · iexact HI
  isplitl [HO]; · iexact HO
  iexact HW

theorem body_exit (c : Dev nD) : iprop(bodyPost (part m) c ∗ ∃ r, prngReg c r) ⊢ post0 m c := by
  have eI : inAt c (part m c) ⊢ stg c cc0_stg0_0 (part m c) := Entails.of_eq (stg_in c _).symm
  have eO : outAt c (ringSum (part m)) ⊢ stg c cc0_stg1_0 (ringSum (part m)) := Entails.of_eq (stg_out c _).symm
  unfold bodyPost post0 Φ₁ zeros
  iintro ⟨⟨Hb, Hz, HL, HI, HO, HW⟩, Hp⟩
  isplitl [Hb Hz HL Hp]
  · isplitl [Hb Hz]; · isplitl [Hb] <;> iassumption
    isplitl [HL] <;> iassumption
  isplitl [HW]; · iapply (owesAt_give m c t0_0.succ 0 rfl); iexact HW
  isplitl [HI]; · iapply eI; iexact HI
  iapply eO; iexact HO

theorem body_run (c : Dev nD) : pre0 m c ⊢ Wp c ring (fun _ => post0 m c) := by
  unfold pre0 Φ₀ Xk
  iintro ⟨⟨⟨%K, #Hc, Hs⟩, HL, Hp⟩, Ho, Hx, Hout⟩
  iapply (ring_run (part m) K c fun _ => post0 m c)
  isplitr; · iexact Hc
  isplitr [Hp]
  · iapply (body_entry m c K)
    isplitl [Hs]; · iexact Hs
    isplitl [HL]; · iexact HL
    isplitl [Hx]; · iapply (in_found m c); iexact Hx
    isplitl [Hout]; · iapply (out_found m c); iexact Hout
    iapply (owesAt_take m c t0_0.castSucc (owe₀ c) rfl); iexact Ho
  · iintro H
    iapply (body_exit m c)
    isplitl [H]; · iexact H
    iexact Hp

theorem body_run_of (c : Dev nD) (k : Code F) (h : k = ring) : pre0 m c ⊢ Wp c k (fun _ => post0 m c) := by
  subst h; exact body_run m c

set_option maxRecDepth 40000 in
theorem body_obligation (c : Dev nD) : BodyObligation (dats (F := F) m 0 c) (defs₀ (F := F)) 𝒱₀ 0 Set.univ := fun t => by
  rw [fin_N0 t]
  rw [bigSep_W0, bigSep_W0]
  simp only [owns_whole_eq]
  exact body_run_of m c _ body_eq

theorem arr_out (c : Dev nD) : (dats m 0 c).arrAt (1 : Fin 2) cfg0.N = ringSum (part m) := by
  refine (dats m 0 c).arrAt_eq_of_cover 1 (ringSum (part m)) (fun t _ => ?_) (fun i => ⟨t0_0, flush0_1 _, ?_⟩)
  · obtain rfl := fin_N0 t
    exact (read_blk0 t0_0 (ringSum (part m))).symm
  · show i ∈ ((View.whole main_v49).slice (win0_1.rect t0_0)).set
    rw [View.set_slice_whole, Rect.mem_set_unit]
    intro a
    have h0 : (i 0 : Nat) < 4096 := (i 0).isLt
    have h1 : (i 1 : Nat) < 2048 := (i 1).isLt
    match a with
    | ⟨0, _⟩ => show 0 * 4096 ≤ (i 0 : Nat) ∧ (i 0 : Nat) < 0 * 4096 + 4096; omega
    | ⟨1, _⟩ => show 0 * 2048 ≤ (i 1 : Nat) ∧ (i 1 : Nat) < 0 * 2048 + 2048; omega

end Cert.RingProof
-- ==== Proof.Deal.lean ====
/-
  What the launch deals to each device, and the kernel's call entered from it: the device opens its twelve counters' cells, and
  has what its body starts from.
-/
module

public import proofs.«01_k».proof.Proof.Region

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

variable (m : (ℓ : Loc nD τ sig) → Buf (Elt F) ℓ)

theorem fam_join {I : Type} [Fintype I] [DecidableEq I] (Φ Ψ : I → sProp (MM F)) :
    iprop(bigSep Finset.univ Φ ∗ bigSep Finset.univ Ψ) ⊢ bigSep Finset.univ fun i => iprop(Φ i ∗ Ψ i) :=
  Entails.of_eq (bigSep_sep' Finset.univ Φ Ψ).symm
theorem fam_split {I : Type} [Fintype I] [DecidableEq I] (Φ Ψ : I → sProp (MM F)) :
    (bigSep Finset.univ fun i => iprop(Φ i ∗ Ψ i)) ⊢ iprop(bigSep Finset.univ Φ ∗ bigSep Finset.univ Ψ) :=
  Entails.of_eq (bigSep_sep' Finset.univ Φ Ψ)

/-- The invariants, and that every barrier is at its first round. -/
def records (X : Dev nD → Block F) (K : GSem nD τ sig → ℕ) : sProp (MM F) :=
  iprop((bigSep (barCells ∪ scCells) fun g => cellInv ER (Rd X) (K g) g) ∗ bigSep barCells fun g => reached ER g 0)

instance records_persistent (X : Dev nD → Block F) (K : GSem nD τ sig → ℕ) : BI.Persistent (records X K) := by
  unfold records; infer_instance

theorem records_ctx (X : Dev nD → Block F) (K : GSem nD τ sig → ℕ) : iprop(records X K ∗ levAts L lv) ⊢ ctx X K := by
  unfold records ctx; iintro ⟨⟨H1, H2⟩, H3⟩
  isplitl [H1]; · iexact H1
  isplitl [H2] <;> iassumption

theorem records_inv (X : Dev nD → Block F) (K : GSem nD τ sig → ℕ) {g : GSem nD τ sig} (hg : g ∈ barCells ∪ scCells) :
    records X K ⊢ cellInv ER (Rd X) (K g) g := by
  have e : (bigSep (barCells ∪ scCells) fun g => cellInv ER (Rd X) (K g) g) ⊢ cellInv ER (Rd X) (K g) g := bigSep_elim hg
  unfold records; iintro ⟨#H, -⟩; iapply e; iexact H

theorem records_bar (X : Dev nD → Block F) (K : GSem nD τ sig → ℕ) (c : Dev nD) : records X K ⊢ reached ER (barCell c) 0 := by
  have e : (bigSep barCells fun g => (reached ER g 0 : sProp (MM F))) ⊢ reached ER (barCell c) 0 :=
    bigSep_elim (Finset.mem_map_of_mem barEmb (Finset.mem_univ c))
  unfold records; iintro ⟨-, #H⟩; iapply e; iexact H

/-- The tokens a device pays with, its place at its barrier, the rights to open its counters; the credits it waits with. -/
def linear (c : Dev nD) : sProp (MM F) :=
  iprop(atPos ER (barCell c) 0 ∅ 0 ∗ (bigSep Finset.univ fun k : Fin 3 × Fin 4 => openTok ER ((c : Thread nD τ), osem k))
    ∗ (dutyTok ER (barCell (nb c false)) 0 true ∗ dutyTok ER (barCell (nb c true)) 0 false)
    ∗ (bigSep Finset.univ fun q => iprop(rights (F := F) c q 0 ∗ giveT (F := F) c q 0)))
def credits (c : Dev nD) : sProp (MM F) :=
  iprop(cred (tallyAt (barCell c) 0 2) ∗ (bigSep Finset.univ fun q => iprop(awaitR (F := F) c q 0 ∗ awaitC (F := F) c q 0)))

def Tk (c : Dev nD) : sProp (MM F) := iprop((∃ K, records (part m) K) ∗ linear (F := F) c ∗ credits (F := F) c)

theorem bigSep_fin3 (Φ : Fin 3 → sProp (MM F)) : bigSep Finset.univ Φ = iprop(Φ 0 ∗ Φ 1 ∗ Φ 2) := by
  rw [show (Finset.univ : Finset (Fin 3)) = {0, 1, 2} from by decide, bigSep_insert (by decide), bigSep_insert (by decide), bigSep_singleton]
  rfl

theorem own_mem (c : Dev nD) (k : Fin 3 × Fin 4) : (((c : Thread nD τ), osem k) : GSem nD τ sig) ∈ barCells ∪ scCells :=
  Finset.mem_union_right _ (Finset.mem_map_of_mem scEmb (Finset.mem_univ (c, k)))

/-- One device's cells opened. -/
theorem open_cells (X : Dev nD → Block F) (K : GSem nD τ sig → ℕ) (c : Dev nD) :
    iprop(records X K ∗ ((bigSep Finset.univ fun k : Fin 3 × Fin 4 => openTok ER ((c : Thread nD τ), osem k))
        ∗ Pipeline.ownSems0 osem c))
      ⊢ |={Set.univ}=> bigSep Finset.univ fun k : Fin 3 × Fin 4 =>
          iprop(atPos ER ((c : Thread nD τ), osem k) 0 ∅ 0 ∗ reached ER ((c : Thread nD τ), osem k) 0) := by
  have e (k : Fin 3 × Fin 4) (_ : k ∈ (Finset.univ : Finset (Fin 3 × Fin 4))) :
      iprop(records X K ∗ (openTok ER ((c : Thread nD τ), osem k) ∗ semVal ((c : Thread nD τ), osem k) 0))
        ⊢ |={Set.univ}=> iprop(atPos ER ((c : Thread nD τ), osem k) 0 ∅ 0 ∗ reached ER ((c : Thread nD τ), osem k) 0) := by
    refine (sep_mono_left (records_inv X K (own_mem c k))).trans ?_
    exact Rounds.cell_open ER (Rd X) (Set.mem_univ _)
  refine (sep_mono_right (fam_join _ _)).trans ?_
  exact (bigSep_with_persistent e).trans (bigSep_fupd _ _)

theorem opened_at (c : Dev nD) : (bigSep Finset.univ fun k : Fin 3 × Fin 4 =>
      iprop(atPos ER ((c : Thread nD τ), osem k) 0 ∅ 0 ∗ reached ER ((c : Thread nD τ), osem k) 0) : sProp (MM F))
    = iprop((bigSep Finset.univ fun q => iprop(atPos ER (credCell c q) 0 ∅ 0 ∗ reached ER (credCell c q) 0))
        ∗ (bigSep Finset.univ fun q => iprop(atPos ER (sendCell c q) 0 ∅ 0 ∗ reached ER (sendCell c q) 0))
        ∗ (bigSep Finset.univ fun q => iprop(atPos ER (recvCell c q) 0 ∅ 0 ∗ reached ER (recvCell c q) 0))) := by
  rw [bigSep_univ_prod, bigSep_fin3]; rfl

theorem zeros_own (c : Dev nD) : zeros (F := F) c ⊢ Pipeline.ownSems0 osem c := by
  have e : Pipeline.ownSems0 osem c = (iprop((bigSep Finset.univ fun q => semVal (credCell c q) 0)
        ∗ (bigSep Finset.univ fun q => semVal (sendCell c q) 0) ∗ (bigSep Finset.univ fun q => semVal (recvCell c q) 0)) : sProp (MM F)) := by
    unfold Pipeline.ownSems0; rw [bigSep_univ_prod, bigSep_fin3]; rfl
  rw [e]
  unfold zeros
  iintro H
  ihave H1 := (fam_split _ _) $$ H; icases H1 with ⟨Ha, H2⟩
  ihave H3 := (fam_split _ _) $$ H2; icases H3 with ⟨Hb, Hc⟩
  isplitl [Ha]; · iexact Ha
  isplitl [Hb] <;> iassumption

/-- One stream's start. -/
theorem start_one (c : Dev nD) (q : Fin 4) :
    iprop((atPos ER (credCell c q) 0 ∅ 0 ∗ reached ER (credCell c q) 0)
        ∗ (atPos ER (sendCell c q) 0 ∅ 0 ∗ reached ER (sendCell c q) 0)
        ∗ (atPos ER (recvCell c q) 0 ∅ 0 ∗ reached ER (recvCell c q) 0)
        ∗ (rights (F := F) c q 0 ∗ giveT (F := F) c q 0) ∗ (awaitR (F := F) c q 0 ∗ awaitC (F := F) c q 0))
      ⊢ iprop(startS (F := F) c q ∗ reached ER (credCell c q) 0) := by
  unfold startS
  iintro ⟨⟨H1, #R1⟩, ⟨H2, #R2⟩, ⟨H3, #R3⟩, ⟨H4, H5⟩, H6, H7⟩
  isplitl [H1 H2 H3 H4 H5 H6 H7]
  · isplitl [H1]; · iexact H1
    isplitl [H3]; · iexact H3
    isplitl [H2]; · iexact H2
    isplitr; · iexact R2
    isplitr; · iexact R3
    isplitl [H4]; · iexact H4
    isplitl [H6]; · iexact H6
    isplitl [H7]; · iexact H7
    iexact H5
  iexact R1

theorem start_all (c : Dev nD) :
    iprop(((bigSep Finset.univ fun q => iprop(atPos ER (credCell c q) 0 ∅ 0 ∗ reached ER (credCell c q) 0))
        ∗ (bigSep Finset.univ fun q => iprop(atPos ER (sendCell c q) 0 ∅ 0 ∗ reached ER (sendCell c q) 0))
        ∗ (bigSep Finset.univ fun q => iprop(atPos ER (recvCell c q) 0 ∅ 0 ∗ reached ER (recvCell c q) 0)))
      ∗ (bigSep Finset.univ fun q => iprop(rights (F := F) c q 0 ∗ giveT (F := F) c q 0))
      ∗ (bigSep Finset.univ fun q => iprop(awaitR (F := F) c q 0 ∗ awaitC (F := F) c q 0)))
      ⊢ iprop((bigSep Finset.univ fun q => startS (F := F) c q) ∗ (bigSep Finset.univ fun q => reached ER (credCell c q) 0)) := by
  refine BIBase.Entails.trans ?_ (fam_split (fun q => startS (F := F) c q) (fun q => reached ER (credCell c q) 0))
  refine BIBase.Entails.trans ?_ (bigSep_mono fun q _ => start_one c q)
  iintro ⟨⟨H1, H2, H3⟩, H4, H5⟩
  iapply fam_join; isplitl [H1]; · iexact H1
  iapply fam_join; isplitl [H2]; · iexact H2
  iapply fam_join; isplitl [H3]; · iexact H3
  iapply fam_join; isplitl [H4] <;> iassumption

theorem opened_start (X : Dev nD → Block F) (K : GSem nD τ sig → ℕ) (c : Dev nD) :
    iprop(records X K ∗ (bigSep Finset.univ fun k : Fin 3 × Fin 4 =>
        iprop(atPos ER ((c : Thread nD τ), osem k) 0 ∅ 0 ∗ reached ER ((c : Thread nD τ), osem k) 0))
      ∗ atPos ER (barCell c) 0 ∅ 0
      ∗ (dutyTok ER (barCell (nb c false)) 0 true ∗ dutyTok ER (barCell (nb c true)) 0 false)
      ∗ (bigSep Finset.univ fun q => iprop(rights (F := F) c q 0 ∗ giveT (F := F) c q 0)) ∗ credits (F := F) c)
      ⊢ startD (F := F) c := by
  rw [opened_at]
  unfold credits startD
  iintro ⟨#HR, H1, H2, ⟨H3, H4⟩, H5, H6, H7⟩
  ihave Hs := (start_all (F := F) c) $$ [H1 H5 H7]
  · isplitl [H1]; · iexact H1
    isplitl [H5] <;> iassumption
  icases Hs with ⟨Hs, Hr⟩
  isplitl [Hs]; · iexact Hs
  isplitl [Hr]; · iexact Hr
  isplitl [H2]; · iexact H2
  isplitr; · iapply (records_bar X K (nb c false)); iexact HR
  isplitr; · iapply (records_bar X K (nb c true)); iexact HR
  isplitl [H3]; · iexact H3
  isplitl [H4]; · iexact H4
  iexact H6

theorem hopen (c : Dev nD) : iprop(Tk m c ∗ Pipeline.ownSems0 osem c ∗ levAts L lv) ⊢ |={Set.univ}=> Xk m c := by
  unfold Tk linear Xk
  iintro ⟨⟨⟨%K, #HR⟩, ⟨Hb, Ho, Hd, Hq⟩, Hc⟩, Hs, Hlev⟩
  imod (open_cells (part m) K c) $$ [Ho Hs] with Hop
  · isplitr; · iexact HR
    isplitl [Ho] <;> iassumption
  imodintro
  iexists K
  isplitl [Hlev]
  · iapply (records_ctx (part m) K); isplitr; · iexact HR
    iexact Hlev
  iapply (opened_start (part m) K c)
  isplitr; · iexact HR
  isplitl [Hop]; · iexact Hop
  isplitl [Hb]; · iexact Hb
  isplitl [Hd]; · iexact Hd
  isplitl [Hq] <;> iassumption

theorem held_none (c : Dev nD) (W : Valuation τ sig (Elt F)) :
    (StableHlo.held (c.tc : Thread nD τ) (∅ : Finset (DevRef τ sig)) W : sProp (MM F)) = BI.emp := by
  unfold StableHlo.held; exact BI.bigSep_empty

theorem hin (c : Dev nD) : iprop(Pipeline.scopedRest (Pipeline.pin (pcfgs (F := F)) adm 0).spec c ∗ (∃ r, prngReg c r)
      ∗ StableHlo.held (c.tc : Thread nD τ) ∅ (V7 m c) ∗ Xk m c) ⊢ (dats m 0 c).Φ 0 := by
  have e : Pipeline.scopedRest (Pipeline.pin (pcfgs (F := F)) adm 0).spec c ⊢ landsAny (F := F) c := Entails.of_eq (scopedRest0_eq c)
  show _ ⊢ Φ₀ m c
  unfold Φ₀
  iintro ⟨Hs, Hp, -, HX⟩
  isplitl [HX]; · iexact HX
  isplitl [Hs]; · iapply e; iexact Hs
  iexact Hp

theorem hout (c : Dev nD) : (dats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (VEnd m c) ∗ Pipeline.ownSems0 osem c ∗ semVal (barCell c) 0) := by
  have e : landsAny (F := F) c ⊢ Pipeline.scopedRest (Pipeline.pin (pcfgs (F := F)) adm 0).spec c := Entails.of_eq (scopedRest0_eq c).symm
  have eh : (BI.emp : sProp (MM F)) ⊢ StableHlo.held (c.tc : Thread nD τ) ∅ (VEnd m c) := Entails.of_eq (held_none c _).symm
  show Φ₁ (F := F) c ⊢ _
  unfold Φ₁
  iintro ⟨⟨Hb, Hz⟩, HL, Hp⟩
  isplitl [HL]; · iapply e; iexact HL
  isplitl [Hp]; · iexact Hp
  isplitr; · iapply eh; iempintro
  isplitl [Hz]; · iapply (zeros_own c); iexact Hz
  iexact Hb

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owe₀_pos {c : Dev nD} {g : GSem nD τ sig} {i : ℕ} (h : 0 < owe₀ c g i) : i ∈ L g ∧ 0 < lv g i := by
  unfold owe₀ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨q, ⟨rfl, -, h⟩ | ⟨rfl, -, h⟩⟩ := owe_pos h
      · refine ⟨?_, ?_⟩
        · unfold L; rw [if_pos rfl]; exact Finset.mem_range.mpr (by omega)
        · unfold lv; rw [role_recv]; show 0 < 3 + 2 * i; omega
      · refine ⟨?_, ?_⟩
        · unfold L; rw [if_pos rfl]; exact Finset.mem_range.mpr (by omega)
        · unfold lv; rw [role_cred]; show 0 < 2 + 2 * i; omega
    · obtain ⟨rfl, rfl⟩ := tally_pos h
      refine ⟨?_, ?_⟩
      · unfold L; rw [if_pos rfl]; exact Finset.mem_range.mpr (by omega)
      · unfold lv; rw [role_bar]; show 0 < 1; omega
  · obtain ⟨rfl, rfl⟩ := tally_pos h
    refine ⟨?_, ?_⟩
    · unfold L; rw [if_pos rfl]; exact Finset.mem_range.mpr (by omega)
    · unfold lv; rw [role_bar]; show 0 < 1; omega

theorem cut (c : Dev nD) (t : Fin ((Pipeline.pin (pcfgs (F := F)) adm 0).N + 1)) (g : GSem nD τ sig) (i : ℕ)
    (h : 0 < (dats (F := F) m 0 c).owed t g i) : i ∈ L g ∧ (0 : ℕ) < lv g i := by
  match t, h with
  | ⟨0, _⟩, h => exact owe₀_pos h
  | ⟨_ + 1, _⟩, h => exact absurd h (Nat.lt_irrefl 0)

theorem stage_level : ∀ (c : Dev nD) (w : Fin (Pipeline.pin (pcfgs (F := F)) adm 0).W) (s : Fin ((Pipeline.pin (pcfgs (F := F)) adm 0).win w).nbuf),
    lv ((c : Thread nD τ), .dma (((Pipeline.pin (pcfgs (F := F)) adm 0).win w).sem s)) 0 ≤ 0 :=
  fun c w s => match w, s with
  | ⟨0, _⟩, ⟨0, _⟩ => Nat.le_refl 0
  | ⟨1, _⟩, ⟨0, _⟩ => Nat.le_refl 0

/-- The buffers the call does not touch. -/
def others : Finset (DevRef τ sig) := Pipeline.ucRefs τ sig \ Pipeline.arrRefs (τ := τ) (pcfgs (F := F) 0).spec

theorem others_ne {b : DevRef τ sig} (h : b ∈ others (F := F)) : b ≠ Proc.devRef .tc main_v49 := by
  rintro rfl
  refine (Finset.mem_sdiff.mp h).2 ?_
  exact Finset.mem_map_of_mem ⟨Proc.devRef (sig := sig) .tc, Proc.devRef_injective _⟩
    (Finset.mem_image_of_mem (Pipeline.arrRef (pcfgs (F := F) 0).spec) (Finset.mem_univ (1 : Fin 2)))

theorem share_full (c : Dev nD) (w : Fin cfg0.W) : (dats m 0 c).share w = fullShare := by unfold Dat.share; split <;> rfl

theorem arr_in (c : Dev nD) : (dats m 0 c).arrAt (0 : Fin 2) cfg0.N = V7 m c main_v48 := (dats m 0 c).arrAt_in (0 : Fin 2) rfl _

theorem arr_end (c : Dev nD) (w : Fin 2) : (dats m 0 c).arrAt w (Pipeline.pin (pcfgs (F := F)) adm 0).N
    = VEnd m c (Proc.devRef .tc (Pipeline.arrRef (Pipeline.pin (pcfgs (F := F)) adm 0).spec w)) := by
  match w with
  | ⟨0, _⟩ =>
    refine (arr_in m c).trans ?_
    exact (VEnd_ne m c (b := Proc.devRef .tc main_v48) (by decide)).symm
  | ⟨1, _⟩ =>
    refine (arr_out m c).trans ?_
    exact (VEnd_v49 m c).symm

set_option backward.isDefEq.respectTransparency.types false in
def region : Pipeline.RegionSeg (pcfgs (F := F)) adm (dats m) 0 defs₀ 𝒱₀ L lv 0 :=
  Pipeline.RegionSeg.ofTalk (pcfgs (F := F)) adm (dats m) 0 defs₀ 𝒱₀ L lv 0 osem (by decide : Pipeline.OwnSemFacts spec0 osem)
    ∅ (others (F := F)) (Finset.empty_subset _) kitP rfl (fun c => (body_obligation m c).loose)
    (fun _ => 0) owe₀ (fun c => (zero_add _).symm) (fun _ => rfl) (fun _ => rfl) (fun c w => share_full m c w)
    (V7 m) (VEnd m) (fun c b hb => VEnd_ne m c (others_ne (F := F) (Finset.mem_sdiff.mp hb).1))
    (Tk m) (fun c => semVal (barCell c) 0) (Xk m) (fun c => semVal (barCell c) 0) (hopen m) (hin m) (hout m)
    (fun c => by iintro H; imodintro; iexact H)
    (fun _ => 0)
    ⟨fun c w s => by unfold L; rw [if_pos rfl]; exact Finset.mem_range.mpr (by omega), fun c w s => stage_level (F := F) c w s, fun c t g i h => cut m c t g i h⟩
    (fun _ => iprop(emp))
    (fun c w => match w with | ⟨0, _⟩ => rfl | ⟨1, _⟩ => rfl) (fun c w => arr_end m c w)

end Cert.RingProof
-- ==== Proof.Launch.lean ====
/-
  The launch: every cell's record made, the tokens, credits and rights dealt to the devices; and the run of the whole program.
-/
module

public import proofs.«01_k».proof.Proof.Deal

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg RegionSeg)

variable {F : FTy → Type} [FloatOps F]

variable (m : (ℓ : Loc nD τ sig) → Buf (Elt F) ℓ) (ρ : Dev nD → PrngReg)

/-! ## The tokens -/

/-- One token per barrier and neighbour; fifteen per other counter. -/
def barTok : Bool × Dev nD ↪ GSem nD τ sig × ℕ × Bool :=
  ⟨fun x => (barCell x.2, 0, x.1), fun _ _ h => Prod.ext (congrArg (fun t : GSem nD τ sig × ℕ × Bool => t.2.2) h)
    (congrArg (fun t : GSem nD τ sig × ℕ × Bool => t.1.1.1) h)⟩
def scTok : (Fin 3 × (Dev nD × Fin 4)) × Fin 15 ↪ GSem nD τ sig × ℕ × Bool :=
  ⟨fun x => (((x.1.2.1 : Thread nD τ), osem (x.1.1, x.1.2.2)), x.2.val, false), fun x y h => by
    have h1 : x.1.2.1 = y.1.2.1 := congrArg (fun t : GSem nD τ sig × ℕ × Bool => t.1.1.1) h
    have h2 : (x.1.1, x.1.2.2) = (y.1.1, y.1.2.2) := osem_inj (congrArg (fun t : GSem nD τ sig × ℕ × Bool => t.1.2) h)
    have h3 : x.2.val = y.2.val := congrArg (fun t : GSem nD τ sig × ℕ × Bool => t.2.1) h
    exact Prod.ext (Prod.ext (Prod.mk.inj h2).1 (Prod.ext h1 (Prod.mk.inj h2).2)) (Fin.ext h3)⟩
def allToks : Finset (GSem nD τ sig × ℕ × Bool) := Finset.univ.map barTok ∪ Finset.univ.map scTok

theorem disjoint_toks : Disjoint (Finset.univ.map barTok) (Finset.univ.map scTok) := by
  rw [Finset.disjoint_left]
  rintro g h₁ h₂
  obtain ⟨c, -, rfl⟩ := Finset.mem_map.mp h₁
  obtain ⟨k, -, h⟩ := Finset.mem_map.mp h₂
  exact osem_ne_bar _ (congrArg (fun t : GSem nD τ sig × ℕ × Bool => t.1.2) h)

theorem disjoint_cells : Disjoint barCells scCells := by
  unfold barCells scCells
  rw [Finset.disjoint_left]
  rintro g h₁ h₂
  obtain ⟨c, -, rfl⟩ := Finset.mem_map.mp h₁
  obtain ⟨k, -, h⟩ := Finset.mem_map.mp h₂
  exact osem_ne_bar _ (congrArg Prod.snd h)

def toEquiv : Dev nD × Fin 4 ≃ Dev nD × Fin 4 :=
  ⟨fun x => (toDev x.1 x.2, x.2), fun x => (fromDev x.1 x.2, x.2), fun x => Prod.ext (fromDev_toDev x.1 x.2) rfl,
    fun x => Prod.ext (toDev_fromDev x.1 x.2) rfl⟩
theorem nb_right : ∀ c : Dev nD, nb (nb c true) false = c := fun c => (nb_back c).2
theorem nb_left : ∀ c : Dev nD, nb (nb c false) true = c := fun c => (nb_back c).1
def nbEquiv : Dev nD ≃ Dev nD := ⟨fun c => nb c false, fun c => nb c true, nb_left, nb_right⟩

def streamToks (k : Fin 3) (x : Dev nD × Fin 4) : sProp (MM F) :=
  bigSep Finset.univ fun i : Fin 15 => dutyTok ER ((x.1 : Thread nD τ), osem (k, x.2)) i.val false

theorem toks_split : bigSep allToks (fun x => (dutyTok ER x.1 x.2.1 x.2.2 : sProp (MM F)))
    ⊢ iprop(((bigSep Finset.univ fun c : Dev nD => dutyTok ER (barCell c) 0 false) ∗ (bigSep Finset.univ fun c : Dev nD => dutyTok ER (barCell c) 0 true))
      ∗ ((bigSep Finset.univ fun x => streamToks (F := F) 0 x) ∗ (bigSep Finset.univ fun x => streamToks (F := F) 1 x)
        ∗ (bigSep Finset.univ fun x => streamToks (F := F) 2 x))) := by
  unfold allToks streamToks
  rw [bigSep_union disjoint_toks, bigSep_map, bigSep_map, bigSep_univ_prod, bigSep_univ_prod, bigSep_univ_prod, bigSep_fin3,
    show (Finset.univ : Finset Bool) = insert false {true} by decide, bigSep_insert (by decide), bigSep_singleton]
  exact BIBase.Entails.rfl

theorem fin15_Ico (A : ℕ → sProp (MM F)) : (bigSep Finset.univ fun i : Fin 15 => A i.val) = bigSep (Finset.Ico 0 15) A := by
  rw [show Finset.Ico 0 15 = (Finset.univ : Finset (Fin 15)).map Fin.valEmbedding by decide, bigSep_map]; rfl

theorem Ico_drop (A : ℕ → sProp (MM F)) : bigSep (Finset.Ico 0 15) A ⊢ bigSep (Finset.Ico 0 14) A :=
  bigSep_subset (by decide)

theorem stream_rights (c : Dev nD) (q : Fin 4) :
    iprop(streamToks (F := F) 1 (c, q) ∗ streamToks (F := F) 2 (toEquiv (c, q)) ∗ streamToks (F := F) 0 (toEquiv.symm (c, q)))
      ⊢ iprop(rights (F := F) c q 0 ∗ giveT (F := F) c q 0) := by
  have e1 : streamToks (F := F) 1 (c, q) ⊢ bigSep (Finset.Ico 0 14) fun i => dutyTok ER (sendCell c q) i false :=
    (Entails.of_eq (fin15_Ico fun i => dutyTok ER (sendCell c q) i false)).trans (Ico_drop _)
  have e2 : streamToks (F := F) 2 (toEquiv (c, q)) ⊢ bigSep (Finset.Ico 0 14) fun i => dutyTok ER (recvCell (toDev c q) q) i false :=
    (Entails.of_eq (fin15_Ico fun i => dutyTok ER (recvCell (toDev c q) q) i false)).trans (Ico_drop _)
  have e3 : streamToks (F := F) 0 (toEquiv.symm (c, q)) ⊢ bigSep (Finset.Ico 0 15) fun i => dutyTok ER (credCell (fromDev c q) q) i false :=
    Entails.of_eq (fin15_Ico fun i => dutyTok ER (credCell (fromDev c q) q) i false)
  unfold rights giveT
  rw [bigSep_sep']
  iintro ⟨H1, H2, H3⟩
  isplitl [H1 H2]
  · isplitl [H2]; · iapply e2; iexact H2
    iapply e1; iexact H1
  iapply e3; iexact H3

theorem toks_dealt : bigSep allToks (fun x => (dutyTok ER x.1 x.2.1 x.2.2 : sProp (MM F)))
    ⊢ iprop((bigSep Finset.univ fun c : Dev nD => iprop(dutyTok ER (barCell (nb c false)) 0 true ∗ dutyTok ER (barCell (nb c true)) 0 false))
      ∗ (bigSep Finset.univ fun c : Dev nD => bigSep Finset.univ fun q => iprop(rights (F := F) c q 0 ∗ giveT (F := F) c q 0))) := by
  have eb1 : (bigSep Finset.univ fun c : Dev nD => (dutyTok ER (barCell c) 0 true : sProp (MM F)))
      ⊢ bigSep Finset.univ fun c : Dev nD => dutyTok ER (barCell (nb c false)) 0 true :=
    Entails.of_eq (bigSep_univ_equiv nbEquiv fun c : Dev nD => dutyTok ER (barCell c) 0 true)
  have eb2 : (bigSep Finset.univ fun c : Dev nD => (dutyTok ER (barCell c) 0 false : sProp (MM F)))
      ⊢ bigSep Finset.univ fun c : Dev nD => dutyTok ER (barCell (nb c true)) 0 false :=
    Entails.of_eq (bigSep_univ_equiv nbEquiv.symm fun c : Dev nD => dutyTok ER (barCell c) 0 false)
  have es0 : (bigSep Finset.univ fun x => streamToks (F := F) 0 x) ⊢ bigSep Finset.univ fun x => streamToks (F := F) 0 (toEquiv.symm x) :=
    Entails.of_eq (bigSep_univ_equiv toEquiv.symm fun x => streamToks (F := F) 0 x)
  have es2 : (bigSep Finset.univ fun x => streamToks (F := F) 2 x) ⊢ bigSep Finset.univ fun x => streamToks (F := F) 2 (toEquiv x) :=
    Entails.of_eq (bigSep_univ_equiv toEquiv fun x => streamToks (F := F) 2 x)
  have er : (bigSep Finset.univ fun x => iprop(streamToks (F := F) 1 x ∗ streamToks (F := F) 2 (toEquiv x) ∗ streamToks (F := F) 0 (toEquiv.symm x)))
      ⊢ bigSep Finset.univ fun c : Dev nD => bigSep Finset.univ fun q => iprop(rights (F := F) c q 0 ∗ giveT (F := F) c q 0) := by
    rw [bigSep_univ_prod]
    exact bigSep_mono fun c _ => bigSep_mono fun q _ => stream_rights c q
  refine (toks_split (F := F)).trans ?_
  iintro ⟨⟨H1, H2⟩, H3, H4, H5⟩
  isplitl [H1 H2]
  · iapply fam_join
    isplitl [H2]; · iapply eb1; iexact H2
    iapply eb2; iexact H1
  iapply er
  iapply fam_join; isplitl [H4]; · iexact H4
  iapply fam_join; isplitl [H5]; · iapply es2; iexact H5
  iapply es0; iexact H3

/-! ## The credits -/

def own₀ (c : Dev nD) : Tallies :=
  ((∑ q, ((∑ h ∈ Finset.Ico 0 14, tallyAt (recvCell c q) h N) + ∑ h ∈ Finset.Ico 0 15, tallyAt (credCell c q) h 1))
    + tallyAt (barCell c) 0 1) + tallyAt (barCell c) 0 1

theorem owed_sum : (∑ d, owe₀ d) = ∑ d, own₀ d := by
  have e1 : (∑ d : Dev nD, (tallyAt (barCell (nb d true)) 0 1 : Tallies)) = ∑ d : Dev nD, tallyAt (barCell d) 0 1 :=
    Equiv.sum_comp nbEquiv.symm fun d : Dev nD => (tallyAt (barCell d) 0 1 : Tallies)
  have e2 : (∑ d : Dev nD, (tallyAt (barCell (nb d false)) 0 1 : Tallies)) = ∑ d : Dev nD, tallyAt (barCell d) 0 1 :=
    Equiv.sum_comp nbEquiv fun d : Dev nD => (tallyAt (barCell d) 0 1 : Tallies)
  have e3 : (∑ d : Dev nD, ∑ q : Fin 4, ∑ h ∈ Finset.Ico 0 14, (tallyAt (recvCell (toDev d q) q) h N : Tallies))
      = ∑ d : Dev nD, ∑ q : Fin 4, ∑ h ∈ Finset.Ico 0 14, tallyAt (recvCell d q) h N := by
    rw [← Fintype.sum_prod_type' (f := fun (d : Dev nD) (q : Fin 4) => ∑ h ∈ Finset.Ico 0 14, (tallyAt (recvCell (toDev d q) q) h N : Tallies)),
      ← Fintype.sum_prod_type' (f := fun (d : Dev nD) (q : Fin 4) => ∑ h ∈ Finset.Ico 0 14, (tallyAt (recvCell d q) h N : Tallies))]
    exact Equiv.sum_comp toEquiv fun x : Dev nD × Fin 4 => ∑ h ∈ Finset.Ico 0 14, (tallyAt (recvCell x.1 x.2) h N : Tallies)
  have e4 : (∑ d : Dev nD, ∑ q : Fin 4, ∑ h ∈ Finset.Ico 0 15, (tallyAt (credCell (fromDev d q) q) h 1 : Tallies))
      = ∑ d : Dev nD, ∑ q : Fin 4, ∑ h ∈ Finset.Ico 0 15, tallyAt (credCell d q) h 1 := by
    rw [← Fintype.sum_prod_type' (f := fun (d : Dev nD) (q : Fin 4) => ∑ h ∈ Finset.Ico 0 15, (tallyAt (credCell (fromDev d q) q) h 1 : Tallies)),
      ← Fintype.sum_prod_type' (f := fun (d : Dev nD) (q : Fin 4) => ∑ h ∈ Finset.Ico 0 15, (tallyAt (credCell d q) h 1 : Tallies))]
    exact Equiv.sum_comp toEquiv.symm fun x : Dev nD × Fin 4 => ∑ h ∈ Finset.Ico 0 15, (tallyAt (credCell x.1 x.2) h 1 : Tallies)
  unfold owe₀ own₀ owe due
  simp only [Finset.sum_add_distrib]
  rw [e1, e2, e3, e4]

theorem own_cell {c : Dev nD} {g : GSem nD τ sig} (h : own₀ c g ≠ 0) : g.1 = (c : Thread nD τ) := by
  obtain ⟨i, hi⟩ : ∃ i, own₀ c g i ≠ 0 := by
    by_contra hn; exact h (Finsupp.ext fun i => not_not.mp fun hi => hn ⟨i, hi⟩)
  have hp : 0 < own₀ c g i := Nat.pos_of_ne_zero hi
  unfold own₀ at hp
  rw [Pi.add_apply, Finsupp.add_apply, Pi.add_apply, Finsupp.add_apply] at hp
  rcases Nat.add_pos_iff_pos_or_pos.mp hp with hp | hp
  · rcases Nat.add_pos_iff_pos_or_pos.mp hp with hp | hp
    · obtain ⟨q, -, hq⟩ := sum_pos_elim _ _ hp
      rw [Pi.add_apply, Finsupp.add_apply] at hq
      rcases Nat.add_pos_iff_pos_or_pos.mp hq with hq | hq
      · obtain ⟨x, -, hx⟩ := sum_pos_elim _ _ hq
        rw [(tally_pos hx).1]
      · obtain ⟨x, -, hx⟩ := sum_pos_elim _ _ hq
        rw [(tally_pos hx).1]
    · rw [(tally_pos hp).1]
  · rw [(tally_pos hp).1]

theorem credits_own (c : Dev nD) : (cred (own₀ c) : sProp (MM F)) = credits c := by
  have e (a b : Tallies) : (cred (a + b) : sProp (MM F)) = iprop(cred a ∗ cred b) :=
    BI.Entails.antisymm (cred_add _ _).1 (cred_add _ _).2
  have h : own₀ c = tallyAt (barCell c) 0 2
      + ∑ q, ((∑ h ∈ Finset.Ico 0 14, tallyAt (recvCell c q) h N) + ∑ h ∈ Finset.Ico 0 15, tallyAt (credCell c q) h 1) := by
    unfold own₀; rw [show 2 = 1 + 1 from rfl, ← tallyAt_add]; ac_rfl
  rw [h, e]
  unfold credits awaitR awaitC
  rw [Pipeline.cred_finsetSum]
  congr 1
  exact bigSep_congr fun q _ => by rw [e, Pipeline.cred_finsetSum, Pipeline.cred_finsetSum]

theorem launched (c : Dev nD) : (Pipeline.launchCred owe₀ c : sProp (MM F)) = credits c := by
  rw [Pipeline.launchCred_of_sum owe₀ own₀ owed_sum (fun d g => own_cell) c, credits_own]

/-! ## The run -/

def u₀ : UU := (initOf (Pipeline.cells cfgs cellOf_inj) (Pipeline.launchToks cfgs cellOf_inj), launchOf barCells scCells allToks)

/-- The launch's element, kept on one device until the common step. -/
def onFirst (Y : sProp (MM F)) (c : Dev nD) : sProp (MM F) := if c = 0 then Y else iprop(emp)
theorem onFirst_all (Y : sProp (MM F)) : bigSep Finset.univ (onFirst Y) = Y := by
  rw [bigSep_univ_at _ (0 : Dev nD), bigSep_congr (s := Finset.univ.erase (0 : Dev nD)) (Ψ := fun _ => (BI.emp : sProp (MM F)))
      fun c hc => by unfold onFirst; rw [if_neg (Finset.ne_of_mem_erase hc)]; rfl, BI.bigSep_emp_const]
  unfold onFirst; rw [if_pos rfl]
  exact BI.equiv_iff.mp sep_emp

def G : Dev nD → sProp (MM F) := onFirst (BI.own (ER (launchOf barCells scCells allToks)))

theorem bar_only (c : Dev nD) : (unscopedSems0 c : sProp (MM F)) = semVal (barCell c) 0 := by
  unfold unscopedSems0
  rw [show (Finset.univ.filter fun sm : SemLoc sig => ¬ sm.isScoped .tc) = {SemLoc.reg barS} from by decide, BI.bigSep_singleton]

/-- Beside its buffers, a device at launch. -/
def E₀ (c : Dev nD) : sProp (MM F) := iprop(Tk m c ∗ (∃ r, prngReg c r) ∗ ∃ W, owes (c : Thread nD τ) (owe₀ c) W)

theorem E₀_intro (K : GSem nD τ sig → ℕ) (c : Dev nD) :
    iprop(records (part m) K ∗ (linear (F := F) c ∗ (credits (F := F) c ∗ (prngReg c (ρ c) ∗ owes (c : Thread nD τ) (owe₀ c) ∅)))) ⊢ E₀ m c := by
  unfold E₀ Tk
  iintro ⟨#HR, Hl, Hc, Hp, HO⟩
  isplitl [Hl Hc]
  · isplitr; · iexists K; iexact HR
    isplitl [Hl] <;> iassumption
  isplitl [Hp]; · iexists (ρ c); iexact Hp
  iexists ∅; iexact HO

theorem init : iprop((bigSep Finset.univ fun c : Dev nD => iprop(unscopedSems0 c ∗ owes (c : Thread nD τ) (owe₀ c) ∅
        ∗ Pipeline.launchCred owe₀ c ∗ prngReg c (ρ c) ∗ G (F := F) c)) ∗ levAts L lv)
      ⊢ (|={Set.univ}=> bigSep Finset.univ (E₀ m) : sProp (MM F)) := by
  have hv : bigSep Finset.univ (fun c : Dev nD => (unscopedSems0 c : sProp (MM F))) ⊢ bigSep barCells (fun g => (semVal g 0 : sProp (MM F))) := by
    rw [bigSep_congr (s := Finset.univ) fun c _ => bar_only (F := F) c]
    exact Entails.of_eq (bigSep_map (s := Finset.univ) barEmb (Φ := fun g : GSem nD τ sig => (semVal g 0 : sProp (MM F)))).symm
  have hat : bigSep barCells (fun g => (atPos ER g 0 ∅ 0 : sProp (MM F))) ⊢ bigSep Finset.univ (fun c : Dev nD => (atPos ER (barCell c) 0 ∅ 0 : sProp (MM F))) :=
    Entails.of_eq (bigSep_map (s := Finset.univ) barEmb (Φ := fun g : GSem nD τ sig => (atPos ER g 0 ∅ 0 : sProp (MM F))))
  have hop : bigSep scCells (fun g => (openTok ER g : sProp (MM F)))
      ⊢ bigSep Finset.univ (fun c : Dev nD => bigSep Finset.univ fun k : Fin 3 × Fin 4 => openTok ER ((c : Thread nD τ), osem k)) :=
    Entails.of_eq (by unfold scCells; rw [bigSep_map, bigSep_univ_prod]; rfl)
  have hG : bigSep Finset.univ (G (F := F)) ⊢ BI.own (ER (launchOf barCells scCells allToks)) := Entails.of_eq (onFirst_all _)
  have hC : (bigSep Finset.univ fun c : Dev nD => (Pipeline.launchCred owe₀ c : sProp (MM F))) ⊢ bigSep Finset.univ fun c : Dev nD => credits (F := F) c :=
    Entails.of_eq (bigSep_congr fun c _ => launched c)
  iintro ⟨H, -⟩
  ihave H1 := (fam_split _ _) $$ H; icases H1 with ⟨Hv, H2⟩
  ihave H3 := (fam_split _ _) $$ H2; icases H3 with ⟨HO, H4⟩
  ihave H5 := (fam_split _ _) $$ H4; icases H5 with ⟨HC, H6⟩
  ihave H7 := (fam_split _ _) $$ H6; icases H7 with ⟨Hp, HG⟩
  imod (Rounds.fund_launch ER (Rd (part m)) disjoint_cells (fun g _ h => h) allToks) $$ [Hv HG] with ⟨%κ, -, #Hinv, #Hr, Hat, Hopen, Htok⟩
  · isplitl [Hv]
    · iapply hv; iexact Hv
    · iapply hG; iexact HG
  imodintro
  iapply (bigSep_with_persistent (R := records (part m) κ)
    (Φ := fun c => iprop(linear (F := F) c ∗ (credits (F := F) c ∗ (prngReg c (ρ c) ∗ owes (c : Thread nD τ) (owe₀ c) ∅)))) fun c _ => E₀_intro m ρ κ c)
  isplitr
  · unfold records
    isplitr; · iexact Hinv
    iexact Hr
  iapply fam_join
  isplitr [HC Hp HO]
  · unfold linear
    iapply fam_join; isplitl [Hat]; · iapply hat; iexact Hat
    iapply fam_join; isplitl [Hopen]; · iapply hop; iexact Hopen
    iapply fam_join
    iapply (toks_dealt (F := F)); iexact Htok
  iapply fam_join; isplitl [HC]; · iapply hC; iexact HC
  iapply fam_join; isplitl [Hp] <;> iassumption

theorem arr_sub : Pipeline.arrRefs (τ := τ) (pcfgs (F := F) 0).spec ⊆ Pipeline.ucRefs τ sig := by
  have h : ∀ w : Fin 2, (Pipeline.arrRef (pcfgs (F := F) 0).spec w).isScoped = false := fun w => match w with | ⟨0, _⟩ => rfl | ⟨1, _⟩ => rfl
  exact Pipeline.arrRefs_sub_ucRefs _ h

set_option backward.isDefEq.respectTransparency.types false in
theorem region_pre (c : Dev nD) : iprop(StableHlo.held (c : Thread nD τ) (Pipeline.ucRefs τ sig) (V7 m c) ∗ E₀ m c) ⊢ (region m).pre c := by
  show _ ⊢ iprop(StableHlo.held (c.tc : Thread nD τ) (Pipeline.arrRefs (τ := τ) (pcfgs (F := F) 0).spec) (V7 m c) ∗ (∃ r, prngReg c r)
    ∗ (StableHlo.held (c.tc : Thread nD τ) (others (F := F)) (V7 m c) ∗ emp) ∗ Tk m c ∗ ∃ Wd, owes (c : Thread nD τ) (0 + owe₀ c) Wd)
  rw [StableHlo.held_sub_split (c : Thread nD τ) (arr_sub (F := F)) (V7 m c), zero_add]
  unfold E₀ others
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

set_option backward.isDefEq.respectTransparency.types false in
theorem region_post (c : Dev nD) : (region m).post c
    ⊢ iprop((StableHlo.held (c : Thread nD τ) (Pipeline.ucRefs τ sig) (VEnd m c) ∗ semVal (barCell c) 0) ∗ ∃ W, owes (c : Thread nD τ) (0 : Tallies) W) := by
  show iprop(StableHlo.held (c.tc : Thread nD τ) (Pipeline.arrRefs (τ := τ) (pcfgs (F := F) 0).spec) (VEnd m c) ∗ (∃ r, prngReg c r)
    ∗ (StableHlo.held (c.tc : Thread nD τ) (others (F := F)) (VEnd m c) ∗ emp) ∗ semVal (barCell c) 0 ∗ ∃ Wd, owes (c : Thread nD τ) (0 : Tallies) Wd) ⊢ _
  rw [StableHlo.held_sub_split (c : Thread nD τ) (arr_sub (F := F)) (VEnd m c)]
  unfold others
  iintro ⟨Ha, -, ⟨Ho, -⟩, Hb, HO⟩
  isplitr [HO]
  · isplitl [Ha Ho]; · isplitl [Ha] <;> iassumption
    iexact Hb
  iexact HO

theorem unscoped_eq : ∀ sm : SemLoc sig, sm.isScoped .tc = false → sm = .reg barS := by decide

/-- What the program's run leaves: the arguments as they were, the result the sum over the ring, no counter raised. -/
def Ends (s : MemSt nD τ sig (Elt F)) : Prop :=
  (∀ c : Dev nD, s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_v49) = ringSum (part m)) ∧ s.sem = fun _ => 0

theorem VEnd_arg (c : Dev nD) : VEnd m c main_arg0 = m ((c : Thread nD τ).loc main_arg0) ∧ VEnd m c main_arg1 = m ((c : Thread nD τ).loc main_arg1)
    ∧ VEnd m c main_arg2 = m ((c : Thread nD τ).loc main_arg2) ∧ VEnd m c main_arg3 = m ((c : Thread nD τ).loc main_arg3) := by
  have e : VEnd m c = V8 m (fun _ r c => VEnd m c r) c := by
    unfold VEnd V8; exact congrArg _ (VEnd_v49 m c).symm
  rw [e]
  exact ⟨V8_main_arg0 m _ c, V8_main_arg1 m _ c, V8_main_arg2 m _ c, V8_main_arg3 m _ c⟩

theorem held_mem (r : Ref sig .tc) (h : ¬ (Proc.devRef (τ := τ) .tc r).isScoped = true) : Proc.devRef .tc r ∈ Pipeline.ucRefs τ sig :=
  Finset.mem_filter.mpr ⟨StableHlo.devRef_mem_tcRefs r, h⟩

def Eseg (i : Fin 2) (c : Dev nD) : sProp (MM F) := E₀ m c

set_option backward.isDefEq.respectTransparency.types false in
theorem run_main : θ_run defs (onTc (τ := τ) (main (F := F))) ⟨m, fun _ => 0, ρ⟩ (fun r => Ends m r.2) := by
  refine Pipeline.θ_run_regions_kit_dev_sems (pcfgs (F := F)) adm (dats m) 0 cellOf_inj EP defs₀ 𝒱₀ L lv m ρ main
    (segs m 𝒱₀ L lv (Eseg m) 0 (dats m) (region m))
    (fun c Q => by
      rewrite [main_chain c, Seg.run_eq_chain,
        show (segs m 𝒱₀ L lv (Eseg m) 0 (dats m) (region m) c).map Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()) ] from rfl]
      dsimp (config := { failIfUnchanged := false }) only
      exact .rfl)
    (fun c => by simp only [segs, Seg.pipes_host, Seg.pipes_region, Seg.pipes_nil]; decide) owe₀
    (fun g h => by unfold L; rw [if_neg h]) (G (F := F)) u₀ ?_
    (T₀ := fun c => iprop(StableHlo.held (c : Thread nD τ) (Pipeline.ucRefs τ sig) (V0 m c) ∗ E₀ m c))
    (Tₙ := fun c => iprop(StableHlo.held (c : Thread nD τ) (Pipeline.ucRefs τ sig) (VEnd m c) ∗ semVal (barCell c) 0))
    (hch := fun c => ⟨.rfl, .rfl, .rfl, .rfl, .rfl, .rfl, .rfl, region_pre m c, region_post m c⟩)
    (hinit := ?_)
    (QY := fun c s => (∀ b ∈ Pipeline.ucRefs τ sig, s.mem ((c : Thread nD τ).1, b) = VEnd m c b) ∧ s.sem (barCell c) = 0)
    (hfin := fun c s' => ?_) (hQ := fun s h hs => ?_)
  · unfold u₀ G
    iintro Hu
    ihave H := (ownU_pair _ _) $$ Hu
    icases H with ⟨HP, HX⟩
    imodintro
    isplitl [HP]; · iexact HP
    rw [onFirst_all]; iexact HX
  · have hsplit : (bigSep Finset.univ fun c : Dev nD => iprop(unscopedBufs c (fun b => m ((c.tc : Thread nD τ).loc b)) ∗ unscopedSems0 c
          ∗ owes (c.tc : Thread nD τ) (owe₀ c) ∅ ∗ Pipeline.launchCred owe₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (owe₀ c) ∅ ∗ Pipeline.launchCred owe₀ c ∗ prngReg c (ρ c) ∗ G c))
            : sProp (MM F)) := by
      rw [← bigSep_sep']
      exact bigSep_mono fun c _ => by
        rw [← Pipeline.unscopedBufs_held (Ix := ℕ) (Name := ℕ) (U := UU) (Lvl := ℕ) c (V0 m c)]; exact BI.Entails.refl _
    iintro ⟨H, Hla⟩
    ihave H' := hsplit $$ H
    icases H' with ⟨Hh, Hr⟩
    imod (init m ρ) $$ [Hr Hla] with HE
    · isplitl [Hr]; · iexact Hr
      iexact Hla
    imodintro
    iapply fam_join
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (VEnd m c) s') $$ [Hh HSI]
    · isplitl [Hh] <;> iassumption
    icases Hr with ⟨%h, HSI⟩
    imodintro
    isplitr
    · ipureintro
      exact ⟨h, by simpa using hb⟩
    · iexact HSI
  · refine ⟨fun c => ?_, sem_eq_zero hs fun c sm hsm => by
      obtain rfl := unscoped_eq sm hsm
      exact (h c).2⟩
    have hv := (h c).1
    obtain ⟨a0, a1, a2, a3⟩ := VEnd_arg m c
    exact ⟨(hv _ (held_mem main_arg0 (by decide))).trans a0, (hv _ (held_mem main_arg1 (by decide))).trans a1,
      (hv _ (held_mem main_arg2 (by decide))).trans a2, (hv _ (held_mem main_arg3 (by decide))).trans a3,
      (hv _ (held_mem main_v49 (by decide))).trans (VEnd_v49 m c)⟩

end Cert.RingProof
-- ==== Proof.Same.lean ====
/-
  The kernel's program and its ideal program are one text: the body of each is the structured program `ring`, and the host
  operations are the same, one by one. So the run proved for the one, at any float values, is a run of the other.
-/
module

public import proofs.«01_k».proof.Proof.Launch
public import proofs.«01_k».proof.Proof.Gen.Kernel
public import proofs.«01_k».proof.Proof.Gen.Kernel.Skeleton

@[expose] public section

namespace Cert.RingProof

open Idealize.ShloMosaic Idealize.SL.Sem

variable {F : FTy → Type} [FloatOps F]

theorem body_same : Cert.Kernel.cc0__ar_body (F := F) inM (Memref.isWhole_whole _) outM (Memref.isWhole_whole _) landM
    (Memref.isWhole_whole _) Cert.Kernel.cc0_scratch1 Cert.Kernel.cc0_scratch2 Cert.Kernel.cc0_scratch3 = ring := by
  chain_rfl

set_option maxHeartbeats 2000000 in
theorem main_same : Cert.Kernel.main (F := F) = Cert.KernelIdeal.main (F := F) := by
  funext d
  chain_rfl

theorem table_same : Cert.Kernel.defs₀ (F := F) = Cert.KernelIdeal.defs₀ (F := F) := by
  refine congrArg Defs.onTc (funext fun l => funext fun a => ?_)
  match l, a with
  | 0, (t, s) =>
    have h0 : s 0 = (0 : Fin 1) := Subsingleton.elim (α := Fin 1) _ _
    have h1 : s 1 = (0 : Fin 1) := Subsingleton.elim (α := Fin 1) _ _
    dsimp only
    generalize s 0 = a at h0
    generalize s 1 = b at h1
    subst h0 h1
    exact body_same.trans body_eq.symm
  | ⟨_ + 1, h⟩, _ => exact absurd h (Nat.not_lt.2 (Nat.le_add_left _ _))

theorem defs_same : Cert.Kernel.defs (F := F) = Cert.KernelIdeal.defs (F := F) :=
  congrArg (Pipeline.defs Cert.KernelIdeal.pcfgs) table_same

/-- The run of the kernel's program. -/
theorem run_kernel (m : (ℓ : Loc Cert.KernelIdeal.nD Cert.KernelIdeal.τ Cert.KernelIdeal.sig) → Buf (Elt F) ℓ)
    (ρ : Dev Cert.KernelIdeal.nD → PrngReg) :
    θ_run (Cert.Kernel.defs (F := F)) (onTc (τ := Cert.Kernel.τ) (Cert.Kernel.main (F := F))) ⟨m, fun _ => 0, ρ⟩
      (fun r => Ends m r.2) := by
  rw [defs_same, main_same]
  exact run_main m ρ

end Cert.RingProof

end
-- ==== Proof.Terms.lean ====
/-
  What each device brings to the ring, as one function of its own arrays: the operations before the call, composed. The routing is
  words only; the three products follow it.
-/
module

public import proofs.«01_k».proof.Proof.Region

@[expose] public section

noncomputable section

namespace Cert.RingProof

open Cert.KernelIdeal Cert.KernelIdeal.Gen
open Idealize.ShloMosaic Idealize.ShloMosaic.TcCoe

variable {F : FTy → Type} [FloatOps F]

/-- The expert each token names. -/
def idsOf (r : IVec S4096x1 32) : IVec S4096 32 := shapeCast S4096 r shapeCasts_S4096x1_S4096

/-- Which expert a token names, one bit for each of the 32. -/
def named (v : IVec S4096 32) : IVec S4096x32 1 :=
  cmpi .eq (broadcastInDim S4096x32 ![0, 1] bcast_S4096x1_S4096x32_0_1 (broadcastInDim S4096x1 ![0] bcast_S4096_S4096x1_0 v))
    (broadcastInDim S4096x32 ![0, 1] bcast_S1x32_S4096x32_0_1 (broadcastInDim S1x32 ![1] bcast_S32_S1x32_1 (iotaInDim S32 32 0)))

/-- For each expert, how many tokens up to and including this one name it. -/
def upTo (v : IVec S4096 32) : IVec S4096x32 32 :=
  Host.reduceWindow IntOp.addi ![4096, 1] ![1, 1] ![4095, 0] ![0, 0] (extui 32 (named v) natLt_1_32)
    (broadcastInDim S_ ![] bcast_S_S_ (constantI S_ 32 0#32)) reduceWindows_S4096x32_S4096x32_w4096s1p4095_0_w1s1p0_0 h_S_

/-- How many earlier tokens name the expert this one names. -/
def tokPos (v : IVec S4096 32) : IVec S4096 32 :=
  Host.reduce IntOp.addi
    (select (named v) (subi (upTo v) (broadcastInDim S4096x32 ![] bcast_S_S4096x32 (constantI S_ 32 1#32)))
      (broadcastInDim S4096x32 ![] bcast_S_S4096x32 (constantI S_ 32 0#32)))
    (constantI S_ 32 0#32) reducesTo_S4096x32_S4096_d1 h_S_

/-- The first expert a device holds. -/
def firstOf (c : Dev nD) : IVec S_ 32 :=
  muli (Host.remui (Host.divui (constantI S_ 32 (Dev.word c)) (constantI S_ 32 1#32)) (constantI S_ 32 8#32)) (constantI S_ 32 4#32)

/-- The row of a device's buffer that a token takes, all ones where it takes none. -/
def slotOf (c : Dev nD) (v : IVec S4096 32) : IVec S4096 32 :=
  select (andi (andi (cmpi .sge v (broadcastInDim S4096 ![] bcast_S_S4096 (firstOf c)))
        (cmpi .slt v (broadcastInDim S4096 ![] bcast_S_S4096 (addi (firstOf c) (constantI S_ 32 4#32)))))
      (cmpi .slt (tokPos v) (broadcastInDim S4096 ![] bcast_S_S4096 (constantI S_ 32 192#32))))
    (addi (muli (subi v (broadcastInDim S4096 ![] bcast_S_S4096 (firstOf c))) (broadcastInDim S4096 ![] bcast_S_S4096 (constantI S_ 32 192#32)))
      (tokPos v))
    (broadcastInDim S4096 ![] bcast_S_S4096 (constantI S_ 32 4294967295#32))

/-- Which row of the buffer a token takes, one bit for each of the 768. -/
def taken (s : IVec S4096 32) : IVec S4096x768 1 :=
  cmpi .eq (broadcastInDim S4096x768 ![0, 1] bcast_S4096x1_S4096x768_0_1 (broadcastInDim S4096x1 ![0] bcast_S4096_S4096x1_0 s))
    (broadcastInDim S4096x768 ![0, 1] bcast_S1x768_S4096x768_0_1 (broadcastInDim S1x768 ![1] bcast_S768_S1x768_1 (iotaInDim S768 32 0)))

/-- The tokens' rows put in the rows they take. -/
def packed (p : FVec F S4096x768 .bf16) (x : FVec F S4096x1024 .bf16) : FVec F S768x1024 .f32 :=
  Host.dotGeneral dot_S4096x768_S4096x1024_S768x1024_0_0_1_1_n_n none p x

/-- Each expert's rows times its matrix. -/
def experts (b : FVec F S4x192x1024 .bf16) (w : FVec F S4x1024x2048 .bf16) : FVec F S4x192x2048 .f32 :=
  Host.dotGeneral dot_S4x192x1024_S4x1024x2048_S4x192x2048_2_1_1_2_0_0 none b w

/-- The products read back at the rows the tokens took. -/
def unpacked (p : FVec F S4096x768 .bf16) (y : FVec F S768x2048 .bf16) : FVec F S4096x2048 .f32 :=
  Host.dotGeneral dot_S4096x768_S768x2048_S4096x2048_1_0_0_1_n_n none p y

/-- The partial product of a device whose tokens take rows `s`. -/
def partAt (s : IVec S4096 32) (x : FVec F S4096x1024 .bf16) (w : FVec F S4x1024x2048 .bf16) : Block F :=
  truncf .bf16 (unpacked (uitofp .bf16 (taken s))
    (shapeCast S768x2048 (truncf .bf16 (experts
      (shapeCast S4x192x1024 (truncf .bf16 (packed (uitofp .bf16 (taken s)) x) bitsLt_bf16_f32) shapeCasts_S768x1024_S4x192x1024) w)
      bitsLt_bf16_f32) shapeCasts_S4x192x2048_S768x2048)) bitsLt_bf16_f32

variable (m : (ℓ : Loc nD τ sig) → Buf (Elt F) ℓ)

attribute [local irreducible] Host.reduceWindow Host.reduce FloatOps.dotGeneral in
theorem part_eq (c : Dev nD) : part m c
    = partAt (slotOf c (idsOf (m ((c : Thread nD τ).loc main_arg2)))) (m ((c : Thread nD τ).loc main_arg0)) (m ((c : Thread nD τ).loc main_arg3)) := by
  unfold part
  after_results <;> rfl

end Cert.RingProof

end
-- ==== Proof.Routing.lean ====
/-
  The routing words read at an index. Where every token names one of the 32 experts, a token's place is the number of earlier tokens
  that name its expert; where moreover no expert is named by more than 192 tokens, a device gives every token that names one of its
  four experts a row of its buffer, no two tokens the same row, and the other tokens none.
-/
module

public import proofs.«01_k».proof.Proof.Terms
public import proofs.«01_k».proof.Pre_routed_KernelIdeal
public import Idealize.ShloMosaic.Lib.Routing.Ops

@[expose] public section

namespace Cert.RingProof

open Cert.KernelIdeal Cert.KernelIdeal.Gen
open Idealize.ShloMosaic Idealize.ShloMosaic.ValueIdx Idealize.ShloMosaic.Routing

/-! ## Two sums of words -/

/-- Position `n` down a column of `N` is its index `(n, 0)`. -/
theorem column_symm {N : ℕ} (n : Fin (shape2 N 1).numel) (h : (shape2 N 1).numel = N) :
    (shape2 N 1).rowMajor.symm n = ix2 (n.cast h) (0 : Fin 1) := by
  rw [Equiv.symm_apply_eq]
  apply Fin.ext
  rw [Shape.rowMajor_val_two]
  show n.val = n.val * 1 + 0
  omega

/-- The running sum down the columns of an array, as a window of the whole height padded above by one less. -/
theorem runningSum {K M : ℕ} (x : IVec (shape2 (K + 1) M) 32) (f : ℕ → ℕ) (q : Fin M)
    (hx : ∀ i : Fin (K + 1), x (ix2 i q) = BitVec.ofNat 32 (f i.val)) (z : IVec shape0 32) (hz : z ix0 = 0#32)
    (h : (shape2 (K + 1) M).ReduceWindows (![K + 1, 1] : Fin 2 → ℕ) ![1, 1] ![K, 0] ![0, 0] (shape2 (K + 1) M)) (hu : 0 < shape0.numel)
    (i : Fin (K + 1)) :
    Host.reduceWindow IntOp.addi ![K + 1, 1] ![1, 1] ![K, 0] ![0, 0] x z h hu (ix2 i q)
      = BitVec.ofNat 32 ((List.range (i.val + 1)).map f).sum := by
  have hn : (shape2 (K + 1) 1).numel = K + 1 := by
    show ∏ a : Fin 2, (![K + 1, 1] : Fin 2 → ℕ) a = K + 1
    rw [Fin.prod_univ_two]
    exact Nat.mul_one _
  have hz' : z (Shape.Idx.first hu) = BitVec.ofNat 32 0 := (congrArg z (eq_ix0 _)).trans hz
  have hi := i.isLt
  have hq := q.isLt
  unfold Host.reduceWindow
  refine (foldl_addi_ofNat _ _ (fun n => if K ≤ i.val + n.val then f (i.val + n.val - K) else 0) (fun n _ => ?_) _ 0 hz').trans ?_
  · have hw0 : ((shape2 (K + 1) 1).rowMajor.symm n 0).val = n.val := by rw [column_symm n hn]; rfl
    have hw1 : ((shape2 (K + 1) 1).rowMajor.symm n 1).val = 0 := by rw [column_symm n hn]; rfl
    have hlt : n.val < K + 1 := (n.cast hn).isLt
    by_cases hk : K ≤ i.val + n.val
    · rw [if_pos hk]
      dsimp only
      rw [dif_pos (by
        intro a
        match a with
        | ⟨0, _⟩ =>
          show K ≤ i.val * 1 + ((shape2 (K + 1) 1).rowMajor.symm n 0).val
            ∧ i.val * 1 + ((shape2 (K + 1) 1).rowMajor.symm n 0).val - K < K + 1
          rw [hw0]; omega
        | ⟨1, _⟩ =>
          show 0 ≤ q.val * 1 + ((shape2 (K + 1) 1).rowMajor.symm n 1).val ∧ q.val * 1 + ((shape2 (K + 1) 1).rowMajor.symm n 1).val - 0 < M
          rw [hw1]; omega)]
      refine (congrArg x (funext fun a => Fin.ext ?_)).trans (hx ⟨i.val + n.val - K, by omega⟩)
      match a with
      | ⟨0, _⟩ =>
        show i.val * 1 + ((shape2 (K + 1) 1).rowMajor.symm n 0).val - K = i.val + n.val - K
        rw [hw0, Nat.mul_one]
      | ⟨1, _⟩ =>
        show q.val * 1 + ((shape2 (K + 1) 1).rowMajor.symm n 1).val - 0 = q.val
        rw [hw1]; omega
    · rw [if_neg hk]
      dsimp only
      rw [dif_neg (by
        intro hin
        have h0 := hin 0
        change K ≤ i.val * 1 + ((shape2 (K + 1) 1).rowMajor.symm n 0).val
          ∧ i.val * 1 + ((shape2 (K + 1) 1).rowMajor.symm n 0).val - K < K + 1 at h0
        rw [hw0] at h0; omega)]
      exact hz'
  · rw [Nat.zero_add, map_finRange_val _ (fun w => if K ≤ i.val + w then f (i.val + w - K) else 0), hn,
      sum_window f K i.val (by omega)]

/-- A row's sum of words of which only one is not zero. -/
theorem rowSum_single {n k : ℕ} (x : IVec (shape2 n k) 32) (h : (shape2 n k).ReducesTo [1] (shape1 n)) (hu : 0 < shape0.numel) (i : Fin n)
    (q : Fin k) (hx : ∀ q', q' ≠ q → x (ix2 i q') = 0#32) :
    Host.reduce IntOp.addi x (constantI shape0 32 0#32) h hu (ix1 i) = x (ix2 i q) := by
  classical
  rw [Host.reduce_eq_fold]
  have hdrop : ∀ j : (shape2 n k).Idx, h.drop j = ix1 i ↔ j 0 = i := by
    intro j
    have hv : (h.drop j 0).val = (j 0).val := Shape.ReducesTo.drop_apply_val h j 0
    constructor
    · intro e; rw [e] at hv; exact Fin.ext hv.symm
    · intro e
      funext b
      obtain rfl : b = 0 := Subsingleton.elim _ _
      exact Fin.ext (by rw [hv, e]; rfl)
  have hsum : ∑ j ∈ Finset.univ.filter (fun j : (shape2 n k).Idx => h.drop j = ix1 i), (x j).toNat = (x (ix2 i q)).toNat := by
    refine Finset.sum_eq_single (ix2 i q) (fun j hj hne => ?_) (fun hn => ?_)
    · obtain ⟨a, b, rfl⟩ : ∃ (a : Fin n) (b : Fin k), j = ix2 a b := ⟨j 0, j 1, by
        funext a
        match a with
        | ⟨0, _⟩ => rfl
        | ⟨1, _⟩ => rfl⟩
      obtain rfl : a = i := (hdrop _).1 (Finset.mem_filter.1 hj).2
      rw [hx b fun e => hne (by rw [e])]
      rfl
    · exact absurd (Finset.mem_filter (a := ix2 i q) |>.2 ⟨Finset.mem_univ _, (hdrop _).2 rfl⟩) hn
  apply BitVec.eq_of_toNat_eq
  show (Finset.fold IntOp.addi 0#32 x (Finset.univ.filter fun j : (shape2 n k).Idx => h.drop j = ix1 i)).toNat = _
  rw [StableHlo.Predicate.toNat_fold_addi _ _ (by rw [hsum]; exact (x (ix2 i q)).isLt), hsum]

/-! ## A token's place -/

/-- The expert token `t` names, as a number. -/
def expert (v : IVec S4096 32) (t : ℕ) : ℕ := if h : t < 4096 then (v (ix1 ⟨t, h⟩)).toNat else 0

theorem expert_fin (v : IVec S4096 32) (t : Fin 4096) : expert v t.val = (v (ix1 t)).toNat := dif_pos t.isLt

/-- How many tokens before token `t` name the expert it names. -/
def place (v : IVec S4096 32) (t : ℕ) : ℕ := Nat.count (fun s => expert v s = expert v t) t

theorem bit_zero {b : BitVec 1} (h : ¬ b = 1#1) : b = 0#1 := (BitVec.eq_zero_or_eq_one b).resolve_right h

theorem named_apply (v : IVec S4096 32) (t : Fin 4096) (q : Fin 32) : named v (ix2 t q) = 1#1 ↔ expert v t.val = q.val := by
  have e : named v (ix2 t q) = IntOp.cmpi .eq (v (ix1 t)) (BitVec.ofNat 32 q.val) :=
    congrArg₂ (IntOp.cmpi .eq) (bcRows _ _ v t q) (bcCols _ _ (iotaInDim S32 32 0) t q)
  rw [e, StableHlo.Predicate.cmpi_eq_iff, expert_fin]
  have hq := q.isLt
  constructor
  · intro h; rw [h, BitVec.toNat_ofNat]; omega
  · intro h; apply BitVec.eq_of_toNat_eq; rw [h, BitVec.toNat_ofNat]; omega

theorem upTo_apply (v : IVec S4096 32) (t : Fin 4096) (q : Fin 32) :
    upTo v (ix2 t q) = BitVec.ofNat 32 (Nat.count (fun s => expert v s = q.val) (t.val + 1)) := by
  refine (runningSum (K := 4095) _ (fun s => if expert v s = q.val then 1 else 0) q (fun i => ?_) _ rfl _ _ t).trans
    (congrArg _ (sum_map_ite _ _))
  show (named v (ix2 i q)).setWidth 32 = _
  by_cases hq : expert v i.val = q.val
  · rw [if_pos hq, (named_apply v i q).2 hq]; rfl
  · rw [if_neg hq, bit_zero fun h => hq ((named_apply v i q).1 h)]; rfl

/-- Every token names one of the 32 experts. -/
def InRange (v : IVec S4096 32) : Prop := ∀ t : Fin 4096, expert v t.val < 32

/-- No expert is named by more than 192 tokens. -/
def Fits (v : IVec S4096 32) : Prop := ∀ q : Fin 32, Nat.count (fun s => expert v s = q.val) 4096 ≤ 192

theorem tokPos_apply (v : IVec S4096 32) (hv : InRange v) (t : Fin 4096) : tokPos v (ix1 t) = BitVec.ofNat 32 (place v t.val) := by
  refine (rowSum_single _ _ _ t ⟨expert v t.val, hv t⟩ (fun q' hq => ?_)).trans ?_
  · show Scalar.select (named v (ix2 t q')) _ _ = 0#32
    rw [bit_zero fun h => hq (Fin.ext ((named_apply v t q').1 h).symm)]
    rfl
  · show Scalar.select (named v (ix2 t ⟨expert v t.val, hv t⟩)) (upTo v (ix2 t ⟨expert v t.val, hv t⟩) - 1#32) _ = _
    rw [(named_apply v t _).2 rfl, upTo_apply]
    show BitVec.ofNat 32 (Nat.count (fun s => expert v s = expert v t.val) (t.val + 1)) - 1#32 = _
    rw [Nat.count_succ, if_pos rfl, StableHlo.Predicate.sub_one_ofNat _ (by omega) (by
      have := Nat.count_le (p := fun s => expert v s = expert v t.val) (n := t.val)
      have := t.isLt
      omega)]
    rfl

theorem place_lt (v : IVec S4096 32) (hv : InRange v) (hf : Fits v) (t : Fin 4096) : place v t.val < 192 := by
  have h1 := hf ⟨expert v t.val, hv t⟩
  have h2 : Nat.count (fun s => expert v s = expert v t.val) (t.val + 1) ≤ Nat.count (fun s => expert v s = expert v t.val) 4096 :=
    Nat.count_monotone _ t.isLt
  rw [Nat.count_succ, if_pos rfl] at h2
  exact Nat.lt_of_lt_of_le (Nat.lt_of_succ_le h2) h1

/-- Two tokens that name one expert have different places. -/
theorem place_inj (v : IVec S4096 32) {s t : ℕ} (he : expert v s = expert v t) (hp : place v s = place v t) : s = t := by
  unfold place at hp
  rw [he] at hp
  exact Nat.count_injective (p := fun r => expert v r = expert v t) he rfl hp

/-! ## A token's row on a device -/

/-- Device `c` holds the expert token `t` names. -/
def Local (c : Dev nD) (v : IVec S4096 32) (t : ℕ) : Prop := 4 * c.val ≤ expert v t ∧ expert v t < 4 * c.val + 4

instance (c : Dev nD) (v : IVec S4096 32) (t : ℕ) : Decidable (Local c v t) := by unfold Local; infer_instance

/-- The row of device `c`'s buffer token `t` takes where it takes one. -/
def rowOn (c : Dev nD) (v : IVec S4096 32) (t : ℕ) : ℕ := (expert v t - 4 * c.val) * 192 + place v t

theorem bit_and {a b : BitVec 1} : IntOp.andi a b = 1#1 ↔ a = 1#1 ∧ b = 1#1 := by
  revert a b; decide

theorem firstOf_word : ∀ (c : Dev nD) (i : S_.Idx), firstOf c i = BitVec.ofNat 32 (4 * c.val) := by
  intro c i
  obtain rfl := eq_ix0 i
  revert c
  decide

theorem slotOf_apply (c : Dev nD) (v : IVec S4096 32) (hv : InRange v) (hf : Fits v) (t : Fin 4096) :
    slotOf c v (ix1 t) = if Local c v t.val then BitVec.ofNat 32 (rowOn c v t.val) else 4294967295#32 := by
  have hp := place_lt v hv hf t
  have he := hv t
  have hw : v (ix1 t) = BitVec.ofNat 32 (expert v t.val) := by rw [expert_fin, BitVec.ofNat_toNat, BitVec.setWidth_eq]
  have hc : c.val < 8 := c.isLt
  have e : slotOf c v (ix1 t) = Scalar.select
      (IntOp.andi (IntOp.andi (IntOp.cmpi .sge (v (ix1 t)) (broadcastInDim S4096 ![] bcast_S_S4096 (firstOf c) (ix1 t)))
        (IntOp.cmpi .slt (v (ix1 t)) (broadcastInDim S4096 ![] bcast_S_S4096 (addi (firstOf c) (constantI S_ 32 4#32)) (ix1 t))))
        (IntOp.cmpi .slt (tokPos v (ix1 t)) 192#32))
      ((v (ix1 t) - broadcastInDim S4096 ![] bcast_S_S4096 (firstOf c) (ix1 t)) * 192#32 + tokPos v (ix1 t)) 4294967295#32 := rfl
  rw [e, bc0, bc0, show addi (firstOf c) (constantI S_ 32 4#32) ix0 = firstOf c ix0 + 4#32 from rfl, firstOf_word, tokPos_apply v hv, hw]
  have h4 : BitVec.ofNat 32 (4 * c.val) + 4#32 = BitVec.ofNat 32 (4 * c.val + 4) := (BitVec.ofNat_add (4 * c.val) 4).symm
  have b1 : IntOp.cmpi .sge (BitVec.ofNat 32 (expert v t.val)) (BitVec.ofNat 32 (4 * c.val)) = 1#1 ↔ 4 * c.val ≤ expert v t.val :=
    StableHlo.Predicate.sle_ofNat_iff _ _ (by omega) (by omega)
  have b2 : IntOp.cmpi .slt (BitVec.ofNat 32 (expert v t.val)) (BitVec.ofNat 32 (4 * c.val + 4)) = 1#1 ↔ expert v t.val < 4 * c.val + 4 :=
    StableHlo.Predicate.slt_ofNat_iff _ _ (by omega) (by omega)
  have b3 : IntOp.cmpi .slt (BitVec.ofNat 32 (place v t.val)) 192#32 = 1#1 :=
    (StableHlo.Predicate.slt_ofNat_iff _ 192 (by omega) (by omega)).2 hp
  rw [h4]
  by_cases hl : Local c v t.val
  · rw [if_pos hl]
    refine (if_pos (bit_and.2 ⟨bit_and.2 ⟨b1.2 hl.1, b2.2 hl.2⟩, b3⟩)).trans ?_
    obtain ⟨h1, h2⟩ := hl
    unfold rowOn
    apply BitVec.eq_of_toNat_eq
    simp only [BitVec.toNat_add, BitVec.toNat_mul, BitVec.toNat_sub, BitVec.toNat_ofNat]
    omega
  · rw [if_neg hl]
    exact if_neg fun h => hl ⟨b1.1 (bit_and.1 (bit_and.1 h).1).1, b2.1 (bit_and.1 (bit_and.1 h).1).2⟩

/-- A token that device `c` holds the expert of takes one of the buffer's 768 rows, within its expert's 192. -/
theorem rowOn_lt (c : Dev nD) (v : IVec S4096 32) (hv : InRange v) (hf : Fits v) (t : Fin 4096) (hl : Local c v t.val) :
    rowOn c v t.val < 768 := by
  have hp := place_lt v hv hf t
  obtain ⟨h1, h2⟩ := hl
  unfold rowOn
  omega

/-- Which tokens take row `r` of device `c`'s buffer. -/
theorem taken_apply (c : Dev nD) (v : IVec S4096 32) (hv : InRange v) (hf : Fits v) (t : Fin 4096) (r : Fin 768) :
    taken (slotOf c v) (ix2 t r) = 1#1 ↔ Local c v t.val ∧ rowOn c v t.val = r.val := by
  have e : taken (slotOf c v) (ix2 t r) = IntOp.cmpi .eq (slotOf c v (ix1 t)) (BitVec.ofNat 32 r.val) :=
    congrArg₂ (IntOp.cmpi .eq) (bcRows _ _ (slotOf c v) t r) (bcCols _ _ (iotaInDim S768 32 0) t r)
  have hr := r.isLt
  rw [e, StableHlo.Predicate.cmpi_eq_iff, slotOf_apply c v hv hf]
  by_cases hl : Local c v t.val
  · rw [if_pos hl]
    have hlt := rowOn_lt c v hv hf t hl
    constructor
    · intro h
      have h' := congrArg BitVec.toNat h
      simp only [BitVec.toNat_ofNat] at h'
      exact ⟨hl, by omega⟩
    · rintro ⟨_, h⟩; rw [h]
  · rw [if_neg hl]
    constructor
    · intro h
      have h' := congrArg BitVec.toNat h
      simp only [BitVec.toNat_ofNat] at h'
      omega
    · rintro ⟨h, _⟩; exact absurd h hl

/-- No two tokens take one row. -/
theorem rowOn_inj (c : Dev nD) (v : IVec S4096 32) (hv : InRange v) (hf : Fits v) {s t : Fin 4096} (hs : Local c v s.val) (ht : Local c v t.val)
    (h : rowOn c v s.val = rowOn c v t.val) : s = t := by
  have hp := place_lt v hv hf s
  have hq := place_lt v hv hf t
  unfold rowOn at h
  obtain ⟨h1, h2⟩ := hs
  obtain ⟨h3, h4⟩ := ht
  exact Fin.ext (place_inj v (by omega) (by omega))

/-! ## What the precondition says -/

theorem routed_reads [Cert.Pre_routed_KernelIdeal.Facts] {F : FTy → Type} [FloatOps F] (x : FVec F S4096x1024 .bf16) (y : FVec F S1024x32 .bf16) (r : IVec S4096x1 32)
    (w : FVec F S4x1024x2048 .bf16) (h : Cert.Pre_routed_KernelIdeal.fn (F := F) x y r w = fun _ => 1#1) :
    InRange (idsOf r) ∧ Fits (idsOf r) := by
  have both : ∀ (t : Fin 4096) (q : Fin 32),
      IntOp.andi (IntOp.cmpi .sge (idsOf r (ix1 t)) 0#32) (IntOp.cmpi .slt (idsOf r (ix1 t)) 32#32) = 1#1
      ∧ IntOp.cmpi .sle (Host.reduce IntOp.addi (extui 32 (named (idsOf r)) natLt_1_32) (constantI S_ 32 0#32)
          Cert.Pre_routed_KernelIdeal.Facts.reducesTo_S4096x32_S32_d0 h_S_ (ix1 q)) 192#32 = 1#1 := by
    intro t q
    have h' := bit_and.1 (congrFun h (ix2 t q))
    refine ⟨(Eq.symm ?_).trans h'.1, (Eq.symm ?_).trans h'.2⟩
    · exact bcRows (n := 4096) (m := 32) _ _ _ t q
    · exact bcCols (n := 4096) (m := 32) _ _ _ t q
  constructor
  · intro t
    obtain ⟨h0, h1⟩ := bit_and.1 (both t 0).1
    rw [expert_fin]
    generalize idsOf r (ix1 t) = a at h0 h1
    have hi0 := of_decide_eq_true ((StableHlo.Predicate.ofBool_eq_one_iff _).1 h0)
    have hi1 := of_decide_eq_true ((StableHlo.Predicate.ofBool_eq_one_iff _).1 h1)
    rw [show (0#32 : BitVec 32).toInt = 0 from rfl] at hi0
    rw [show (32#32 : BitVec 32).toInt = 32 from rfl] at hi1
    have ha := a.isLt
    rw [BitVec.toInt_eq_toNat_cond] at hi0 hi1
    split at hi0 <;> split at hi1 <;> omega
  · intro q
    have hq := (both 0 q).2
    have hc := StableHlo.Predicate.toNat_reduce_count_rows (n := 4096) (m := 32) (by decide) (named (idsOf r)) natLt_1_32
      Cert.Pre_routed_KernelIdeal.Facts.reducesTo_S4096x32_S32_d0 (u := S_) h_S_ (ix1 q)
    have hn : (Finset.univ.filter (fun p : Fin 4096 => named (idsOf r) (StableHlo.Predicate.ij p ((ix1 q : S32.Idx) 0)) = 1#1)).card
        = Nat.count (fun s => expert (idsOf r) s = q.val) 4096 := by
      rw [← card_filter_fin]
      refine congrArg Finset.card (Finset.filter_congr fun p _ => ?_)
      rw [ij_eq_ix2]
      exact named_apply (idsOf r) p q
    rw [hn] at hc
    have hle := Nat.count_le (p := fun s => expert (idsOf r) s = q.val) (n := 4096)
    have := (StableHlo.Predicate.sle_iff_toNat (by rw [hc]; omega) (by decide)).1 hq
    rw [hc] at this
    exact this

end Cert.RingProof
-- ==== Proof.Value.lean ====
/-
  The value at the ideal floats. A device's partial product at a token is the token's row times its expert's matrix where the device
  holds that expert, and zero elsewhere; the ring adds the eight, of which one is not zero; and the program on one device gathers that
  expert's matrix and takes the same product.
-/
module

public import proofs.«01_k».proof.Proof.Routing
public import proofs.«01_k».proof.Proof.Gen.ReferenceIdeal.Run
public import Idealize.ShloMosaic.Lib.Pointwise
public import Idealize.ShloMosaic.PureOps.Ideal.Laws
public import Idealize.ShloMosaic.Lib.Layout

@[expose] public section

noncomputable section

namespace Cert.RingProof

open Cert.KernelIdeal Cert.KernelIdeal.Gen
open Idealize.ShloMosaic hiding ix0 ix1 ix2 ix3
open Idealize.ShloMosaic.ValueIdx Idealize.ShloMosaic.Routing

/-! ## The products, read at an index -/

set_option maxRecDepth 16384 in
theorem packed_apply (p : FVec Ideal S4096x768 .bf16) (x : FVec Ideal S4096x1024 .bf16) (r : Fin 768) (d : Fin 1024) :
    packed p x (ix2 r d) = ∑ t : Fin 4096, (p (ix2 t r) : EReal) * (x (ix2 t d) : EReal) := by
  unfold packed
  pointwise
  rfl

set_option maxRecDepth 16384 in
theorem experts_apply (b : FVec Ideal S4x192x1024 .bf16) (w : FVec Ideal S4x1024x2048 .bf16) (k : Fin 4) (p : Fin 192) (o : Fin 2048) :
    experts b w (ix3 k p o) = ∑ d : Fin 1024, (b (ix3 k p d) : EReal) * (w (ix3 k d o) : EReal) := by
  unfold experts
  pointwise
  rfl

set_option maxRecDepth 16384 in
theorem unpacked_apply (p : FVec Ideal S4096x768 .bf16) (y : FVec Ideal S768x2048 .bf16) (t : Fin 4096) (o : Fin 2048) :
    unpacked p y (ix2 t o) = ∑ r : Fin 768, (p (ix2 t r) : EReal) * (y (ix2 r o) : EReal) := by
  unfold unpacked
  pointwise
  rfl

set_option maxRecDepth 16384 in
theorem gathered_apply (x : FVec Ideal S4096x1024 .bf16) (g : FVec Ideal Cert.ReferenceIdeal.S4096x1024x2048 .bf16) (t : Fin 4096) (o : Fin 2048) :
    Host.dotGeneral Cert.ReferenceIdeal.dot_S4096x1024_S4096x1024x2048_S4096x2048_1_1_n_2_0_0 none x g (ix2 t o)
      = ∑ d : Fin 1024, (x (ix2 t d) : EReal) * (g (ix3 t d o) : EReal) := by
  pointwise
  rfl

/-! ## A device's partial product -/

/-- The one-hot array of the rows tokens take: one at the token's row, zero elsewhere. -/
theorem oneHot_apply (c : Dev nD) (v : IVec S4096 32) (hv : InRange v) (hf : Fits v) (t : Fin 4096) (r : Fin 768) :
    (uitofp (F := Ideal) .bf16 (taken (slotOf c v)) (ix2 t r) : EReal) = if Local c v t.val ∧ rowOn c v t.val = r.val then 1 else 0 := by
  show (((taken (slotOf c v) (ix2 t r)).toNat : ℝ) : EReal) = _
  by_cases h : Local c v t.val ∧ rowOn c v t.val = r.val
  · rw [if_pos h, (taken_apply c v hv hf t r).2 h]; simp
  · rw [if_neg h, bit_zero fun e => h ((taken_apply c v hv hf t r).1 e)]; simp

/-- A taken row of the buffer holds the row of the token that takes it. -/
theorem packed_row (c : Dev nD) (v : IVec S4096 32) (hv : InRange v) (hf : Fits v) (x : FVec Ideal S4096x1024 .bf16) (t : Fin 4096)
    (hl : Local c v t.val) (r : Fin 768) (hr : rowOn c v t.val = r.val) (d : Fin 1024) :
    (packed (uitofp .bf16 (taken (slotOf c v))) x (ix2 r d) : EReal) = x (ix2 t d) := by
  rw [packed_apply, Finset.sum_eq_single t]
  · rw [oneHot_apply c v hv hf, if_pos ⟨hl, hr⟩, one_mul]
  · intro s _ hs
    rw [oneHot_apply c v hv hf, if_neg fun h => hs (rowOn_inj c v hv hf h.1 hl (h.2.trans hr.symm)), zero_mul]
  · intro h; exact absurd (Finset.mem_univ _) h

/-- The buffer cut into the four experts' rows. -/
theorem cut_apply (b : FVec Ideal S768x1024 .bf16) (k : Fin 4) (p : Fin 192) (d : Fin 1024) (r : Fin 768) (hr : r.val = k.val * 192 + p.val) :
    shapeCast S4x192x1024 b shapeCasts_S768x1024_S4x192x1024 (ix3 k p d) = b (ix2 r d) := by
  refine shapeCast_apply b _ _ _ ?_
  rw [Shape.rowMajor_val_two, Shape.rowMajor_val_three]
  show r.val * 1024 + d.val = (k.val * 192 + p.val) * 1024 + d.val
  rw [hr]

/-- ... and the products joined again. -/
theorem join_apply (y : FVec Ideal S4x192x2048 .bf16) (k : Fin 4) (p : Fin 192) (o : Fin 2048) (r : Fin 768) (hr : r.val = k.val * 192 + p.val) :
    shapeCast S768x2048 y shapeCasts_S4x192x2048_S768x2048 (ix2 r o) = y (ix3 k p o) := by
  refine shapeCast_apply y _ _ _ ?_
  rw [Shape.rowMajor_val_two, Shape.rowMajor_val_three]
  show (k.val * 192 + p.val) * 2048 + o.val = r.val * 2048 + o.val
  rw [hr]

/-- The device's expert of a local token. -/
def localExpert (c : Dev nD) (v : IVec S4096 32) (t : ℕ) (h : Local c v t) : Fin 4 :=
  ⟨expert v t - 4 * c.val, by have := h.1; have := h.2; omega⟩

theorem partAt_local (c : Dev nD) (v : IVec S4096 32) (hv : InRange v) (hf : Fits v) (x : FVec Ideal S4096x1024 .bf16)
    (w : FVec Ideal S4x1024x2048 .bf16) (t : Fin 4096) (o : Fin 2048) (hl : Local c v t.val) :
    (partAt (slotOf c v) x w (ix2 t o) : EReal)
      = ∑ d : Fin 1024, (x (ix2 t d) : EReal) * (w (ix3 (localExpert c v t.val hl) d o) : EReal) := by
  have hr : (⟨rowOn c v t.val, rowOn_lt c v hv hf t hl⟩ : Fin 768).val
      = (localExpert c v t.val hl).val * 192 + (⟨place v t.val, place_lt v hv hf t⟩ : Fin 192).val := rfl
  refine (unpacked_apply _ _ t o).trans ?_
  rw [Finset.sum_eq_single ⟨rowOn c v t.val, rowOn_lt c v hv hf t hl⟩]
  · rw [oneHot_apply c v hv hf, if_pos ⟨hl, rfl⟩, one_mul, join_apply _ _ _ o _ hr]
    refine (experts_apply _ _ _ _ o).trans (Finset.sum_congr rfl fun d _ => ?_)
    rw [cut_apply _ _ _ d _ hr]
    exact congrArg (· * _) (packed_row c v hv hf x t hl _ rfl d)
  · intro r _ hne
    rw [oneHot_apply c v hv hf, if_neg fun h => hne (Fin.ext h.2.symm), zero_mul]
  · intro h; exact absurd (Finset.mem_univ _) h

theorem partAt_elsewhere (c : Dev nD) (v : IVec S4096 32) (hv : InRange v) (hf : Fits v) (x : FVec Ideal S4096x1024 .bf16)
    (w : FVec Ideal S4x1024x2048 .bf16) (t : Fin 4096) (o : Fin 2048) (hl : ¬ Local c v t.val) :
    (partAt (slotOf c v) x w (ix2 t o) : EReal) = 0 := by
  refine (unpacked_apply _ _ t o).trans (Finset.sum_eq_zero fun r _ => ?_)
  rw [oneHot_apply c v hv hf, if_neg fun h => hl h.1, zero_mul]

/-! ## The sum over the ring -/

theorem fromDev_back : ∀ (d : Dev nD) (q : Fin 4), fromDev d q = back d q 1 := by decide +kernel

theorem back_zero (d : Fin 8) (q : Fin 4) : back d q 0 = d := by
  revert d q; decide

theorem back_back (d : Fin 8) (q : Fin 4) (n : ℕ) : back (back d q 1) q n = back d q (n + 1) := by
  have hd := d.isLt
  match q with
  | 0 | 1 => exact Fin.ext (by show ((d.val + 7 * 1) % 8 + 7 * n) % 8 = (d.val + 7 * (n + 1)) % 8; omega)
  | 2 | 3 => exact Fin.ext (by show ((d.val + 1) % 8 + n) % 8 = (d.val + (n + 1)) % 8; omega)

theorem back_bijective : ∀ (d : Fin 8) (q : Fin 4), Function.Bijective fun k : Fin 8 => back d q k.val := by
  intro d q
  rw [← Finite.injective_iff_bijective]
  revert d q
  decide +kernel

/-- After `n` hops a stream carries the sum of the own entry and of the `n` devices behind. -/
theorem acc_sum (X : Dev nD → Block Ideal) (q : Fin 4) (i : S4096x2048.Idx) : ∀ (n : ℕ), n ≤ 7 → ∀ c : Dev nD,
    (acc X q n c i : EReal) = ∑ k : Fin (n + 1), (X (back c q k.val) i : EReal) := by
  intro n
  induction n with
  | zero => intro _ c; rw [Fin.sum_univ_one]; show X c i = X (back c q 0) i; rw [back_zero]
  | succ n ih =>
    intro hn c
    rw [acc_add X q (by omega), Fin.sum_univ_succ]
    show (X c i : EReal) + (acc X q n (fromDev c q) i : EReal) = _
    rw [ih (by omega), fromDev_back]
    show _ = (X (back c q 0) i : EReal) + ∑ k : Fin (n + 1), (X (back c q (k.val + 1)) i : EReal)
    rw [back_zero]
    exact congrArg _ (Finset.sum_congr rfl fun k _ => by rw [back_back])

/-- The result is the sum over all devices. -/
theorem ringSum_apply (X : Dev nD → Block Ideal) (i : S4096x2048.Idx) : (ringSum X i : EReal) = ∑ c : Fin 8, (X c i : EReal) := by
  refine (acc_sum X _ i 7 (le_refl _) _).trans ?_
  exact (back_bijective _ _).sum_comp fun c => (X c i : EReal)

/-! ## The program on one device -/

/-- The matrix gathered for a token is its expert's. -/
theorem gather_apply (w : FVec Ideal Cert.ReferenceIdeal.S32x1024x2048 .bf16) (s : IVec S4096x1 32) (t : Fin 4096) (e : Fin 32)
    (hs : s (ix2 t (0 : Fin 1)) = BitVec.ofNat 32 e.val) (d : Fin 1024) (o : Fin 2048) :
    Host.gather Cert.ReferenceIdeal.gather_S32x1024x2048_S4096x1_S4096x1024x2048_12_0_n_n_0_1_110242048 w s (ix3 t d o) = w (ix3 e d o) := by
  have he := e.isLt
  have hi : Cert.ReferenceIdeal.gather_S32x1024x2048_S4096x1_S4096x1024x2048_12_0_n_n_0_1_110242048.siIdx (ix3 t d o)
      ⟨0, by decide⟩ = ix2 t (0 : Fin 1) := by
    funext b
    match b with
    | ⟨0, _⟩ => rfl
    | ⟨1, _⟩ => rfl
  unfold Host.gather
  refine congrArg w (funext fun a => Fin.ext ?_)
  match a with
  | ⟨0, _⟩ =>
    show min (s (Cert.ReferenceIdeal.gather_S32x1024x2048_S4096x1_S4096x1024x2048_12_0_n_n_0_1_110242048.siIdx (ix3 t d o)
      ⟨0, by decide⟩)).toInt.toNat (32 - 1) + 0 + 0 = e.val
    rw [hi, hs, StableHlo.Predicate.toInt_ofNat_small _ (by omega)]
    omega
  | ⟨1, _⟩ => show 0 + 0 + d.val = d.val; omega
  | ⟨2, _⟩ => show 0 + 0 + o.val = o.val; omega

/-- Which matrix each token takes, as the program on one device computes it: a negative number counts from the end. -/
def chosen (r : IVec S4096x1 32) : IVec S4096x1 32 :=
  broadcastInDim S4096x1 ![0] bcast_S4096_S4096x1_0
    (select (cmpi .slt (idsOf r) (broadcastInDim S4096 ![] bcast_S_S4096 (constantI S_ 32 0#32)))
      (addi (idsOf r) (broadcastInDim S4096 ![] bcast_S_S4096 (constantI S_ 32 32#32))) (idsOf r))

/-- What the program on one device computes. -/
def whole (x : FVec Ideal S4096x1024 .bf16) (r : IVec S4096x1 32) (w : FVec Ideal Cert.ReferenceIdeal.S32x1024x2048 .bf16) : Block Ideal :=
  truncf .bf16 (Host.dotGeneral Cert.ReferenceIdeal.dot_S4096x1024_S4096x1024x2048_S4096x2048_1_1_n_2_0_0 none x
    (Host.gather Cert.ReferenceIdeal.gather_S32x1024x2048_S4096x1_S4096x1024x2048_12_0_n_n_0_1_110242048 w (chosen r)))
    bitsLt_bf16_f32

theorem chosen_apply (r : IVec S4096x1 32) (hv : InRange (idsOf r)) (t : Fin 4096) :
    chosen r (ix2 t (0 : Fin 1)) = BitVec.ofNat 32 (expert (idsOf r) t.val) := by
  have he := hv t
  have hw : idsOf r (ix1 t) = BitVec.ofNat 32 (expert (idsOf r) t.val) := by rw [expert_fin, BitVec.ofNat_toNat, BitVec.setWidth_eq]
  refine (bcCol (n := 4096) _ _ t).trans ?_
  refine (if_neg fun h => ?_).trans hw
  have h' : IntOp.cmpi .slt (idsOf r (ix1 t)) 0#32 = 1#1 := h
  rw [hw] at h'
  have := (StableHlo.Predicate.slt_ofNat_iff _ 0 (by omega) (by omega)).1 h'
  omega

theorem whole_apply (x : FVec Ideal S4096x1024 .bf16) (r : IVec S4096x1 32) (w : FVec Ideal Cert.ReferenceIdeal.S32x1024x2048 .bf16)
    (hv : InRange (idsOf r)) (t : Fin 4096) (o : Fin 2048) :
    (whole x r w (ix2 t o) : EReal)
      = ∑ d : Fin 1024, (x (ix2 t d) : EReal) * (w (ix3 (⟨expert (idsOf r) t.val, hv t⟩ : Fin 32) d o) : EReal) := by
  refine (gathered_apply _ _ t o).trans (Finset.sum_congr rfl fun d _ => ?_)
  rw [gather_apply w (chosen r) t ⟨expert (idsOf r) t.val, hv t⟩ (chosen_apply r hv t) d o]

/-- Device `c`'s matrix `k` is the whole array's matrix `4c + k`. -/
theorem block_expert (w : FVec Ideal Cert.ReferenceIdeal.S32x1024x2048 .bf16) (c : Fin 8) (k : Fin 4) (e : Fin 32) (h : e.val = 4 * c.val + k.val)
    (d : Fin 1024) (o : Fin 2048) :
    Layout.block ⟨3, ![4, 1024, 2048]⟩ ⟨3, ![32, 1024, 2048]⟩ 0 8 c w (by decide) (ix3 k d o) = w (ix3 e d o) := by
  rw [Layout.block_apply]
  refine congrArg w (funext fun a => Fin.ext ?_)
  match a with
  | ⟨0, _⟩ => show c.val * 4 + k.val = e.val; omega
  | ⟨1, _⟩ => rfl
  | ⟨2, _⟩ => rfl

/-- The ring's sum of the eight partial products is what the program on one device computes. -/
theorem ring_whole (x : FVec Ideal S4096x1024 .bf16) (r : IVec S4096x1 32) (w : FVec Ideal Cert.ReferenceIdeal.S32x1024x2048 .bf16)
    (hv : InRange (idsOf r)) (hf : Fits (idsOf r)) (X : Dev nD → Block Ideal)
    (hX : ∀ c, X c = partAt (slotOf c (idsOf r)) x (Layout.block ⟨3, ![4, 1024, 2048]⟩ ⟨3, ![32, 1024, 2048]⟩ 0 8 c w)) :
    ringSum X = whole x r w := by
  funext i
  obtain ⟨t, o, rfl⟩ : ∃ (t : Fin 4096) (o : Fin 2048), i = ix2 t o := ⟨i 0, i 1, by
    funext a
    match a with
    | ⟨0, _⟩ => rfl
    | ⟨1, _⟩ => rfl⟩
  have he := hv t
  have hl : Local (⟨expert (idsOf r) t.val / 4, by show _ < 8; omega⟩ : Dev nD) (idsOf r) t.val := by
    unfold Local; dsimp only; omega
  refine (ringSum_apply X _).trans ((Finset.sum_eq_single (⟨expert (idsOf r) t.val / 4, by omega⟩ : Fin 8) ?_ ?_).trans ?_)
  · intro c _ hc
    rw [hX]
    refine partAt_elsewhere c _ hv hf x _ t o fun h => hc (Fin.ext ?_)
    obtain ⟨h1, h2⟩ := h
    show c.val = expert (idsOf r) t.val / 4
    omega
  · intro h; exact absurd (Finset.mem_univ _) h
  · rw [hX, whole_apply x r w hv]
    refine (partAt_local _ _ hv hf x _ t o hl).trans (Finset.sum_congr rfl fun d _ => ?_)
    refine congrArg (_ * ·) (block_expert w _ _ _ ?_ d o)
    show expert (idsOf r) t.val = 4 * (expert (idsOf r) t.val / 4) + (expert (idsOf r) t.val - 4 * (expert (idsOf r) t.val / 4))
    omega

end Cert.RingProof

end
-- ==== Proof.lean ====
/-
  The claims: the frames of the kernel's program, in words and in extended reals, and of the reference, that the ideal
  program is the kernel's own text, and that over extended reals every device ends holding what the reference computes,
  where every token names an expert and no expert is named by more tokens than its capacity. The kernel's run is `Cert.RingProof.run_main` (Proof/Launch.lean): the ring
  all-reduce on eight devices after the host's routing and products; its value is `Cert.RingProof.ring_whole`
  (Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Same
public import proofs.«01_k».proof.Proof.Value
public import proofs.«01_k».proof.Proof.Gen.Pre_routed_KernelIdeal
public import proofs.«01_k».proof.Proof.Gen.Pre_routed_ReferenceIdeal
public import Idealize.ShloMosaic.Adequacy
public import Idealize.ShloMosaic.Init

@[expose] public section

noncomputable section

namespace Cert.Proof

open Idealize.ShloMosaic Idealize.ShloMosaic.TcCoe Idealize.SL.Sem

/-- The kernel, in words: it ends, its arguments kept, every counter at zero. -/
theorem frame_kernel : Cert.quiescent_Kernel := fun m ρ _ =>
  (θ_run _ _ _).mono (fun _ h => ⟨fun c => ⟨(h.1 c).1, (h.1 c).2.1, (h.1 c).2.2.1, (h.1 c).2.2.2.1⟩, h.2⟩)
    (Cert.RingProof.run_kernel (F := Bits) m ρ)

/-- The kernel in extended reals. -/
theorem frame_kernelIdeal : Cert.quiescent_KernelIdeal := fun m ρ _ =>
  (θ_run _ _ _).mono (fun _ h => ⟨fun c => ⟨(h.1 c).1, (h.1 c).2.1, (h.1 c).2.2.1, (h.1 c).2.2.2.1⟩, h.2⟩)
    (Cert.RingProof.run_main (F := Ideal) m ρ)

/-- The reference: host operations only, and no semaphore. -/
theorem frame_reference : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

/-- The value: each device's partial product is the composed term of its arrays, and the ring's sum of the eight is the
    reference's product. -/
theorem value : Cert.algebraic_KernelIdeal_ReferenceIdeal_pre_routed_KernelIdeal := by
  intro m ρ m' ρ' hpre harg
  have hr := Cert.RingProof.routed_reads _ _ _ _ (hpre 0)
  have h := Cert.RingProof.ring_whole
    (m (((0 : Dev Cert.KernelIdeal.nD) : Thread Cert.KernelIdeal.nD Cert.KernelIdeal.τ).loc Cert.KernelIdeal.main_arg0))
    (m (((0 : Dev Cert.KernelIdeal.nD) : Thread Cert.KernelIdeal.nD Cert.KernelIdeal.τ).loc Cert.KernelIdeal.main_arg2))
    (m' (((0 : Dev Cert.ReferenceIdeal.nD) : Thread Cert.ReferenceIdeal.nD Cert.ReferenceIdeal.τ).loc Cert.ReferenceIdeal.main_arg3))
    hr.1 hr.2 (Cert.RingProof.part m) (fun c => by
      rw [Cert.RingProof.part_eq, (harg c).1, (harg c).2.2.1, (harg c).2.2.2, ← (harg 0).1, ← (harg 0).2.2.1])
  refine ⟨Cert.RingProof.ringSum (Cert.RingProof.part m), ?_, ?_⟩
  · exact (θ_run _ _ _).mono (fun _ e c => ⟨(e.1 c).2.2.2.2, (e.1 c).1, (e.1 c).2.1, (e.1 c).2.2.1, (e.1 c).2.2.2.1⟩)
      (Cert.RingProof.run_main (F := Ideal) m ρ)
  · refine (θ_run _ _ _).mono (fun r e => ⟨?_, (e 0).2⟩) (Cert.ReferenceIdeal.Value.run (F := Ideal) m' ρ')
    rw [h, (harg 0).1, (harg 0).2.2.1]
    exact (e 0).1

theorem claim : Cert.Claim := ⟨Cert.Kernel.Gen.facts, Cert.KernelIdeal.Gen.facts, Cert.ReferenceIdeal.Gen.facts,
  Cert.Pre_routed_KernelIdeal.Gen.facts, Cert.Pre_routed_ReferenceIdeal.Gen.facts,
  frame_kernel, frame_kernelIdeal, fun m ρ _ => frame_kernelIdeal m ρ trivial, frame_reference,
  fun m ρ _ => frame_reference m ρ trivial, trivial, value⟩

end Cert.Proof

end
